-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v181) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x8192x1024 : Shape := ⟨3, ![4, 8192, 1024]⟩
abbrev S4x256x1024 : Shape := ⟨3, ![4, 256, 1024]⟩
abbrev S4x256x128 : Shape := ⟨3, ![4, 256, 128]⟩
abbrev S4x8192x128 : Shape := ⟨3, ![4, 8192, 128]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x256x1024 : S_.BroadcastsInDim S4x256x1024 (![] : Fin 0 → Fin S4x256x1024.rank)
  reducesTo_S4x256x1024_S_d0_1_2 : S4x256x1024.ReducesTo [0, 1, 2] S_
  bcast_S_S4x256x128 : S_.BroadcastsInDim S4x256x128 (![] : Fin 0 → Fin S4x256x128.rank)
  reducesTo_S4x256x128_S_d0_1_2 : S4x256x128.ReducesTo [0, 1, 2] S_
  bcast_S_S4x8192x128 : S_.BroadcastsInDim S4x8192x128 (![] : Fin 0 → Fin S4x8192x128.rank)
  reducesTo_S4x8192x128_S_d0_1_2 : S4x8192x128.ReducesTo [0, 1, 2] S_

variable [Facts]

def fn_part1 {F : FTy → Type} [FloatOps F] (main_arg4 : FVec F S4x8192x128 .bf16) (main_v16 : IVec S_ 1) (main_v17 : FVec F S4x8192x1024 .f32) : IVec S_ 1 :=
  let main_v18 : FVec F S4x8192x1024 .f32 := Host.absf main_v17
  let main_cst_4 : FVec F S_ .f32 := constant S_ .f32 0x7F800000#32
  let main_v19 : FVec F S4x8192x1024 .f32 := broadcastInDim S4x8192x1024 ![] bcast_S_S4x8192x1024 main_cst_4
  let main_v20 : IVec S4x8192x1024 1 := cmpf .olt main_v18 main_v19
  let main_c_5 : IVec S_ 1 := constantI S_ 1 1#1
  let main_v21 : IVec S_ 1 := (fun x v => Host.reduce IntOp.andi x v reducesTo_S4x8192x1024_S_d0_1_2 h_S_) main_v20 main_c_5
  let main_v22 : IVec S_ 1 := andi main_v16 main_v21
  let main_v23 : FVec F S4x8192x128 .f32 := (extf .f32 · bitsLt_bf16_f32) main_arg4
  let main_v24 : FVec F S4x8192x128 .f32 := Host.absf main_v23
  let main_cst_6 : FVec F S_ .f32 := constant S_ .f32 0x7F800000#32
  let main_v25 : FVec F S4x8192x128 .f32 := broadcastInDim S4x8192x128 ![] bcast_S_S4x8192x128 main_cst_6
  let main_v26 : IVec S4x8192x128 1 := cmpf .olt main_v24 main_v25
  let main_c_7 : IVec S_ 1 := constantI S_ 1 1#1
  let main_v27 : IVec S_ 1 := (fun x v => Host.reduce IntOp.andi x v reducesTo_S4x8192x128_S_d0_1_2 h_S_) main_v26 main_c_7
  let main_v28 : IVec S_ 1 := andi main_v22 main_v27
  main_v28

def fn {F : FTy → Type} [FloatOps F] (main_arg0 : FVec F S4x8192x1024 .bf16) (main_arg1 : FVec F S4x256x1024 .bf16) (main_arg2 : FVec F S4x256x128 .bf16) (main_arg3 : FVec F S4x8192x1024 .bf16) (main_arg4 : FVec F S4x8192x128 .bf16) : IVec S_ 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_c : IVec S_ 1 := constantI S_ 1 1#1
  let main_v4 : IVec S_ 1 := (fun x v => Host.reduce IntOp.andi x v reducesTo_S4x8192x1024_S_d0_1_2 h_S_) main_v3 main_c
  let main_v5 : FVec F S4x256x1024 .f32 := (extf .f32 · bitsLt_bf16_f32) main_arg1
  let main_v6 : FVec F S4x256x1024 .f32 := Host.absf main_v5
  let main_cst_0 : FVec F S_ .f32 := constant S_ .f32 0x7F800000#32
  let main_v7 : FVec F S4x256x1024 .f32 := broadcastInDim S4x256x1024 ![] bcast_S_S4x256x1024 main_cst_0
  let main_v8 : IVec S4x256x1024 1 := cmpf .olt main_v6 main_v7
  let main_c_1 : IVec S_ 1 := constantI S_ 1 1#1
  let main_v9 : IVec S_ 1 := (fun x v => Host.reduce IntOp.andi x v reducesTo_S4x256x1024_S_d0_1_2 h_S_) main_v8 main_c_1
  let main_v10 : IVec S_ 1 := andi main_v4 main_v9
  let main_v11 : FVec F S4x256x128 .f32 := (extf .f32 · bitsLt_bf16_f32) main_arg2
  let main_v12 : FVec F S4x256x128 .f32 := Host.absf main_v11
  let main_cst_2 : FVec F S_ .f32 := constant S_ .f32 0x7F800000#32
  let main_v13 : FVec F S4x256x128 .f32 := broadcastInDim S4x256x128 ![] bcast_S_S4x256x128 main_cst_2
  let main_v14 : IVec S4x256x128 1 := cmpf .olt main_v12 main_v13
  let main_c_3 : IVec S_ 1 := constantI S_ 1 1#1
  let main_v15 : IVec S_ 1 := (fun x v => Host.reduce IntOp.andi x v reducesTo_S4x256x128_S_d0_1_2 h_S_) main_v14 main_c_3
  let main_v16 : IVec S_ 1 := andi main_v10 main_v15
  let main_v17 : FVec F S4x8192x1024 .f32 := (extf .f32 · bitsLt_bf16_f32) main_arg3
  fn_part1 (F := F) main_arg4 main_v16 main_v17
-- ==== Kernel.lean ====
abbrev S4x8192x1024 : Shape := ⟨3, ![4, 8192, 1024]⟩
abbrev S4x256x1024 : Shape := ⟨3, ![4, 256, 1024]⟩
abbrev S4x256x128 : Shape := ⟨3, ![4, 256, 128]⟩
abbrev S4x8192x128 : Shape := ⟨3, ![4, 8192, 128]⟩
abbrev S4x8192x512 : Shape := ⟨3, ![4, 8192, 512]⟩
abbrev S1x1024x1024 : Shape := ⟨3, ![1, 1024, 1024]⟩
abbrev S1x256x1024 : Shape := ⟨3, ![1, 256, 1024]⟩
abbrev S1x256x128 : Shape := ⟨3, ![1, 256, 128]⟩
abbrev S1x2048x1024 : Shape := ⟨3, ![1, 2048, 1024]⟩
abbrev S1x2048x128 : Shape := ⟨3, ![1, 2048, 128]⟩
abbrev S1x1024x512 : Shape := ⟨3, ![1, 1024, 512]⟩
abbrev S8x1024x128 : Shape := ⟨3, ![8, 1024, 128]⟩
abbrev S1x1024x128 : Shape := ⟨3, ![1, 1024, 128]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩
abbrev S2048x128 : Shape := ⟨2, ![2048, 128]⟩
abbrev S1024x2048 : Shape := ⟨2, ![1024, 2048]⟩
abbrev S1024x64 : Shape := ⟨2, ![1024, 64]⟩
abbrev S1x1024x64 : Shape := ⟨3, ![1, 1024, 64]⟩

abbrev nBuf : Space → Nat
  | .hbm => 6
  | .vmem => 14
  | .smem => 0
  | _ => 0

abbrev bufTy : (tb : Table) → Fin (tcTables nBuf tb) → BufTy
  | .hbm, ⟨0, _⟩ => ⟨S4x8192x1024, .bf16⟩
  | .hbm, ⟨1, _⟩ => ⟨S4x256x1024, .bf16⟩
  | .hbm, ⟨2, _⟩ => ⟨S4x256x128, .bf16⟩
  | .hbm, ⟨3, _⟩ => ⟨S4x8192x1024, .bf16⟩
  | .hbm, ⟨4, _⟩ => ⟨S4x8192x128, .bf16⟩
  | .hbm, ⟨5, _⟩ => ⟨S4x8192x512, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x128, .bf16⟩
  | .local _ .vmem, ⟨5, _⟩ => ⟨S1x256x128, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x1024x512, .bf16⟩
  | .local _ .vmem, ⟨11, _⟩ => ⟨S1x1024x512, .bf16⟩
  | .local _ .vmem, ⟨12, _⟩ => ⟨S8x1024x128, .f32⟩
  | .local _ .vmem, ⟨13, _⟩ => ⟨S8x1024x128, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v331 : BitVec 1 := Scalar.cmpi .eq arg2 c3_i32
  let v332 : BitVec 32 := Scalar.extui v331
  let c0_i32_208 : BitVec 32 := 0#32
  let v333 : BitVec 1 := Scalar.cmpi .ne v332 c0_i32_208
  v333

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== KernelIdeal.lean ====
variable {F : FTy → Type} [FloatOps F] [Named F]
def κ : String → Option EReal := fun
  | "neg" => some ⊥
  | _ => none
-- ==== ReferenceIdeal.lean ====
abbrev S4x8192x1024 : Shape := ⟨3, ![4, 8192, 1024]⟩
abbrev S4x256x1024 : Shape := ⟨3, ![4, 256, 1024]⟩
abbrev S4x256x128 : Shape := ⟨3, ![4, 256, 128]⟩
abbrev S4x8192x128 : Shape := ⟨3, ![4, 8192, 128]⟩
abbrev S4x8448x1024 : Shape := ⟨3, ![4, 8448, 1024]⟩
abbrev S4x8448x128 : Shape := ⟨3, ![4, 8448, 128]⟩
abbrev S4x8448x64 : Shape := ⟨3, ![4, 8448, 64]⟩
abbrev S4x8192x8x128 : Shape := ⟨4, ![4, 8192, 8, 128]⟩
abbrev S4x8448x8x128 : Shape := ⟨4, ![4, 8448, 8, 128]⟩
abbrev S4x8192x8x64 : Shape := ⟨4, ![4, 8192, 8, 64]⟩
abbrev S4x8448x8x64 : Shape := ⟨4, ![4, 8448, 8, 64]⟩
abbrev S4x8x8192x8448 : Shape := ⟨4, ![4, 8, 8192, 8448]⟩
abbrev S4x8448x8192x8 : Shape := ⟨4, ![4, 8448, 8192, 8]⟩
abbrev S_ : Shape := ⟨0, ![]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S4x8192x512 : Shape := ⟨3, ![4, 8192, 512]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x256x1024, .bf16⟩
  | .hbm, ⟨2, _⟩ => ⟨S4x256x128, .bf16⟩
  | .hbm, ⟨3, _⟩ => ⟨S4x8192x1024, .bf16⟩
  | .hbm, ⟨4, _⟩ => ⟨S4x8192x128, .bf16⟩
  | .hbm, ⟨5, _⟩ => ⟨S4x8192x1024, .f32⟩
  | .hbm, ⟨6, _⟩ => ⟨S4x256x1024, .f32⟩
  | .hbm, ⟨7, _⟩ => ⟨S4x256x128, .f32⟩
  | .hbm, ⟨8, _⟩ => ⟨S4x8192x1024, .f32⟩
  | .hbm, ⟨9, _⟩ => ⟨S4x8192x128, .f32⟩
  | .hbm, ⟨10, _⟩ => ⟨S4x8448x1024, .f32⟩
  | .hbm, ⟨11, _⟩ => ⟨S4x8448x128, .f32⟩
  | .hbm, ⟨12, _⟩ => ⟨S4x8448x64, .f32⟩
  | .hbm, ⟨13, _⟩ => ⟨S4x8192x8x128, .f32⟩
  | .hbm, ⟨14, _⟩ => ⟨S4x8448x8x128, .f32⟩
  | .hbm, ⟨15, _⟩ => ⟨S4x8192x8x64, .f32⟩
  | .hbm, ⟨16, _⟩ => ⟨S4x8192x8x64, .f32⟩
  | .hbm, ⟨17, _⟩ => ⟨S4x8448x8x64, .f32⟩
  | .hbm, ⟨18, _⟩ => ⟨S4x8448x8x64, .f32⟩
  | .hbm, ⟨19, _⟩ => ⟨S4x8x8192x8448, .f32⟩
  | .hbm, ⟨20, _⟩ => ⟨S4x8448x8192x8, .f32⟩
  | .hbm, ⟨21, _⟩ => ⟨S4x8x8192x8448, .f32⟩
  | .hbm, ⟨22, _⟩ => ⟨S4x8x8192x8448, .f32⟩
  | .hbm, ⟨23, _⟩ => ⟨S_, .f32⟩
  | .hbm, ⟨24, _⟩ => ⟨S_, .f32⟩
  | .hbm, ⟨25, _⟩ => ⟨S4x8x8192x8448, .f32⟩
  | .hbm, ⟨26, _⟩ => ⟨S4x8x8192x8448, .f32⟩
  | .hbm, ⟨27, _⟩ => ⟨S_, .f32⟩
  | .hbm, ⟨28, _⟩ => ⟨S4x8x8192, .f32⟩
  | .hbm, ⟨29, _⟩ => ⟨S_, .f32⟩
  | .hbm, ⟨30, _⟩ => ⟨S4x8x8192, .f32⟩
  | .hbm, ⟨31, _⟩ => ⟨S4x8x8192, .f32⟩
  | .hbm, ⟨32, _⟩ => ⟨S4x8x8192x1, .f32⟩
  | .hbm, ⟨33, _⟩ => ⟨S4x8x8192x8448, .f32⟩
  | .hbm, ⟨34, _⟩ => ⟨S4x8x8192x8448, .f32⟩
  | .hbm, ⟨35, _⟩ => ⟨S4x8x8192x8448, .f32⟩
  | .hbm, ⟨36, _⟩ => ⟨S_, .f32⟩
  | .hbm, ⟨37, _⟩ => ⟨S4x8x8192, .f32⟩
  | .hbm, ⟨38, _⟩ => ⟨S4x8x8192x1, .f32⟩
  | .hbm, ⟨39, _⟩ => ⟨S4x8x8192x8448, .f32⟩
  | .hbm, ⟨40, _⟩ => ⟨S4x8x8192x8448, .f32⟩
  | .hbm, ⟨41, _⟩ => ⟨S4x8x64x8192, .f32⟩
  | .hbm, ⟨42, _⟩ => ⟨S4x8192x8x64, .f32⟩
  | .hbm, ⟨43, _⟩ => ⟨S4x8192x512, .f32⟩
  | .hbm, ⟨44, _⟩ => ⟨S4x8192x512, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel2.lean ====
abbrev S4x8192x1024 : Shape := ⟨3, ![4, 8192, 1024]⟩
abbrev S1x1024 : Shape := ⟨2, ![1, 1024]⟩
abbrev S4x1x1024 : Shape := ⟨3, ![4, 1, 1024]⟩
abbrev S2x1024x5632 : Shape := ⟨3, ![2, 1024, 5632]⟩
abbrev S2x3x5632 : Shape := ⟨3, ![2, 3, 5632]⟩
abbrev S2x1x5632 : Shape := ⟨3, ![2, 1, 5632]⟩
abbrev S2x2816x1024 : Shape := ⟨3, ![2, 2816, 1024]⟩
abbrev S1x8x1024 : Shape := ⟨3, ![1, 8, 1024]⟩
abbrev S1x512x1024 : Shape := ⟨3, ![1, 512, 1024]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S528x1024 : Shape := ⟨2, ![528, 1024]⟩
abbrev S512x1024 : Shape := ⟨2, ![512, 1024]⟩
abbrev S8x1024 : Shape := ⟨2, ![8, 1024]⟩
abbrev S8 : Shape := ⟨1, ![8]⟩
abbrev S8x1 : Shape := ⟨2, ![8, 1]⟩
abbrev S512 : Shape := ⟨1, ![512]⟩
abbrev S512x1 : Shape := ⟨2, ![512, 1]⟩
abbrev S1024x2816 : Shape := ⟨2, ![1024, 2816]⟩
abbrev S528x2816 : Shape := ⟨2, ![528, 2816]⟩
abbrev S512x2816 : Shape := ⟨2, ![512, 2816]⟩
abbrev S1x2816 : Shape := ⟨2, ![1, 2816]⟩
abbrev S2816x1024 : Shape := ⟨2, ![2816, 1024]⟩

abbrev nBuf : Space → Nat
  | .hbm => 11
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S2x1024x5632, .bf16⟩
  | .hbm, ⟨5, _⟩ => ⟨S2x3x5632, .f32⟩
  | .hbm, ⟨6, _⟩ => ⟨S2x1x5632, .f32⟩
  | .hbm, ⟨7, _⟩ => ⟨S2x2816x1024, .bf16⟩
  | .hbm, ⟨8, _⟩ => ⟨S4x1x1024, .f32⟩
  | .hbm, ⟨9, _⟩ => ⟨S1x1024, .f32⟩
  | .hbm, ⟨10, _⟩ => ⟨S4x8192x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024x2816, .bf16⟩
  | .local _ .vmem, ⟨12, _⟩ => ⟨S1x1024x2816, .bf16⟩
  | .local _ .vmem, ⟨13, _⟩ => ⟨S1x3x2816, .f32⟩
  | .local _ .vmem, ⟨14, _⟩ => ⟨S1x3x2816, .f32⟩
  | .local _ .vmem, ⟨15, _⟩ => ⟨S1x1x2816, .f32⟩
  | .local _ .vmem, ⟨16, _⟩ => ⟨S1x1x2816, .f32⟩
  | .local _ .vmem, ⟨17, _⟩ => ⟨S1x2816x1024, .bf16⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1x512x1024, .f32⟩
  | .local _ .vmem, ⟨22, _⟩ => ⟨S1x512x1024, .f32⟩
  | .local _ .vmem, ⟨23, _⟩ => ⟨S528x1024, .bf16⟩
  | .local _ .vmem, ⟨24, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨3, ![4, 16, 1], ![false, false, false]⟩

def k0_cond2 (i : grid0.Coords) : BitVec 1 :=
  let arg2 : BitVec 32 := BitVec.ofNat 32 (i 2).val
  let c0_i32_45 : BitVec 32 := 0#32
  let v79 : BitVec 1 := Scalar.cmpi .eq arg2 c0_i32_45
  let v80 : BitVec 32 := Scalar.extui v79
  let c0_i32_46 : BitVec 32 := 0#32
  let v81 : BitVec 1 := Scalar.cmpi .ne v80 c0_i32_46
  v81

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c1_i32_0 : BitVec 32 := 1#32
  let c0_i32 : BitVec 32 := 0#32
  let c0_i32_1 : BitVec 32 := 0#32
  ![c1_i32_0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c1_i32_0 : BitVec 32 := 1#32
  let c0_i32 : BitVec 32 := 0#32
  let c0_i32_1 : BitVec 32 := 0#32
  ![c1_i32_0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c1_i32_0 : BitVec 32 := 1#32
  let c0_i32 : BitVec 32 := 0#32
  let c0_i32_1 : BitVec 32 := 0#32
  ![c1_i32_0.toNat, c0_i32.toNat, v0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, true]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, true]

abbrev stage0_8 : Fin 1 → Memref sig .tc .vmem S1x3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, true]

abbrev stage0_9 : Fin 1 → Memref sig .tc .vmem S1x3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, true]

abbrev stage0_10 : Fin 1 → Memref sig .tc .vmem S1x1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, true]

abbrev stage0_11 : Fin 1 → Memref sig .tc .vmem S1x1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, true]

abbrev stage0_12 : Fin 1 → Memref sig .tc .vmem S1x2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]
-- ==== Reference2Ideal.lean ====
abbrev S4x8192x1024 : Shape := ⟨3, ![4, 8192, 1024]⟩
abbrev S1x1024 : Shape := ⟨2, ![1, 1024]⟩
abbrev S4x1x1024 : Shape := ⟨3, ![4, 1, 1024]⟩
abbrev S2x1024x5632 : Shape := ⟨3, ![2, 1024, 5632]⟩
abbrev S2x3x5632 : Shape := ⟨3, ![2, 3, 5632]⟩
abbrev S2x1x5632 : Shape := ⟨3, ![2, 1, 5632]⟩
abbrev S2x2816x1024 : Shape := ⟨3, ![2, 2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x1x5632 : Shape := ⟨3, ![1, 1, 5632]⟩
abbrev S5632 : Shape := ⟨1, ![5632]⟩
abbrev S1x2816x1024 : Shape := ⟨3, ![1, 2816, 1024]⟩
abbrev S2816x1024 : Shape := ⟨2, ![2816, 1024]⟩
abbrev S4x8192x5632 : Shape := ⟨3, ![4, 8192, 5632]⟩
abbrev S4x8194x5632 : Shape := ⟨3, ![4, 8194, 5632]⟩
abbrev S1x5632 : Shape := ⟨2, ![1, 5632]⟩
abbrev S4x8192x2816 : Shape := ⟨3, ![4, 8192, 2816]⟩

abbrev nBuf : Space → Nat
  | .hbm => 112
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S2x1024x5632, .bf16⟩
  | .hbm, ⟨5, _⟩ => ⟨S2x3x5632, .f32⟩
  | .hbm, ⟨6, _⟩ => ⟨S2x1x5632, .f32⟩
  | .hbm, ⟨7, _⟩ => ⟨S2x2816x1024, .bf16⟩
  | .hbm, ⟨8, _⟩ => ⟨S4x1x1024, .f32⟩
  | .hbm, ⟨9, _⟩ => ⟨S1x1024, .f32⟩
  | .hbm, ⟨10, _⟩ => ⟨S1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S2x1024x5632, .f32⟩
  | .hbm, ⟨35, _⟩ => ⟨S1x1024x5632, .f32⟩
  | .hbm, ⟨36, _⟩ => ⟨S1024x5632, .f32⟩
  | .hbm, ⟨37, _⟩ => ⟨S1x3x5632, .f32⟩
  | .hbm, ⟨38, _⟩ => ⟨S3x5632, .f32⟩
  | .hbm, ⟨39, _⟩ => ⟨S1x1x5632, .f32⟩
  | .hbm, ⟨40, _⟩ => ⟨S5632, .f32⟩
  | .hbm, ⟨41, _⟩ => ⟨S2x2816x1024, .f32⟩
  | .hbm, ⟨42, _⟩ => ⟨S1x2816x1024, .f32⟩
  | .hbm, ⟨43, _⟩ => ⟨S2816x1024, .f32⟩
  | .hbm, ⟨44, _⟩ => ⟨S4x8192x5632, .f32⟩
  | .hbm, ⟨45, _⟩ => ⟨S_, .i32⟩
  | .hbm, ⟨46, _⟩ => ⟨S_, .f32⟩
  | .hbm, ⟨47, _⟩ => ⟨S4x8194x5632, .f32⟩
  | .hbm, ⟨48, _⟩ => ⟨S4x8192x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S4x8192x5632, .f32⟩
  | .hbm, ⟨53, _⟩ => ⟨S4x8192x5632, .f32⟩
  | .hbm, ⟨54, _⟩ => ⟨S1x1x5632, .f32⟩
  | .hbm, ⟨55, _⟩ => ⟨S4x8192x5632, .f32⟩
  | .hbm, ⟨56, _⟩ => ⟨S4x8192x5632, .f32⟩
  | .hbm, ⟨57, _⟩ => ⟨S4x8192x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S4x8192x5632, .f32⟩
  | .hbm, ⟨62, _⟩ => ⟨S4x8192x5632, .f32⟩
  | .hbm, ⟨63, _⟩ => ⟨S4x8192x5632, .f32⟩
  | .hbm, ⟨64, _⟩ => ⟨S4x8192x5632, .f32⟩
  | .hbm, ⟨65, _⟩ => ⟨S1x5632, .f32⟩
  | .hbm, ⟨66, _⟩ => ⟨S5632, .f32⟩
  | .hbm, ⟨67, _⟩ => ⟨S1x1x5632, .f32⟩
  | .hbm, ⟨68, _⟩ => ⟨S4x8192x5632, .f32⟩
  | .hbm, ⟨69, _⟩ => ⟨S4x8192x5632, .f32⟩
  | .hbm, ⟨70, _⟩ => ⟨S4x8192x5632, .f32⟩
  | .hbm, ⟨71, _⟩ => ⟨S4x8192x2816, .f32⟩
  | .hbm, ⟨72, _⟩ => ⟨S4x8192x2816, .f32⟩
  | .hbm, ⟨73, _⟩ => ⟨S4x8192x2816, .f32⟩
  | .hbm, ⟨74, _⟩ => ⟨S4x8192x2816, .f32⟩
  | .hbm, ⟨75, _⟩ => ⟨S_, .f32⟩
  | .hbm, ⟨76, _⟩ => ⟨S4x8192x2816, .f32⟩
  | .hbm, ⟨77, _⟩ => ⟨S4x8192x2816, .f32⟩
  | .hbm, ⟨78, _⟩ => ⟨S4x8192x2816, .f32⟩
  | .hbm, ⟨79, _⟩ => ⟨S_, .f32⟩
  | .hbm, ⟨80, _⟩ => ⟨S4x8192x2816, .f32⟩
  | .hbm, ⟨81, _⟩ => ⟨S4x8192x2816, .f32⟩
  | .hbm, ⟨82, _⟩ => ⟨S4x8192x2816, .f32⟩
  | .hbm, ⟨83, _⟩ => ⟨S_, .f32⟩
  | .hbm, ⟨84, _⟩ => ⟨S4x8192x2816, .f32⟩
  | .hbm, ⟨85, _⟩ => ⟨S4x8192x2816, .f32⟩
  | .hbm, ⟨86, _⟩ => ⟨S_, .f32⟩
  | .hbm, ⟨87, _⟩ => ⟨S4x8192x2816, .f32⟩
  | .hbm, ⟨88, _⟩ => ⟨S4x8192x2816, .f32⟩
  | .hbm, ⟨89, _⟩ => ⟨S4x8192x2816, .f32⟩
  | .hbm, ⟨90, _⟩ => ⟨S4x8192x2816, .f32⟩
  | .hbm, ⟨91, _⟩ => ⟨S4x8192x1024, .f32⟩
  | .hbm, ⟨92, _⟩ => ⟨S1024, .f32⟩
  | .hbm, ⟨93, _⟩ => ⟨S4x8192x1024, .f32⟩
  | .hbm, ⟨94, _⟩ => ⟨S_, .f32⟩
  | .hbm, ⟨95, _⟩ => ⟨S4x8192, .f32⟩
  | .hbm, ⟨96, _⟩ => ⟨S4x8192x1, .f32⟩
  | .hbm, ⟨97, _⟩ => ⟨S_, .f32⟩
  | .hbm, ⟨98, _⟩ => ⟨S4x8192x1, .f32⟩
  | .hbm, ⟨99, _⟩ => ⟨S4x8192x1, .f32⟩
  | .hbm, ⟨100, _⟩ => ⟨S_, .f32⟩
  | .hbm, ⟨101, _⟩ => ⟨S4x8192x1, .f32⟩
  | .hbm, ⟨102, _⟩ => ⟨S4x8192x1, .f32⟩
  | .hbm, ⟨103, _⟩ => ⟨S4x8192x1, .f32⟩
  | .hbm, ⟨104, _⟩ => ⟨S4x8192x1024, .f32⟩
  | .hbm, ⟨105, _⟩ => ⟨S4x8192x1024, .f32⟩
  | .hbm, ⟨106, _⟩ => ⟨S1x1x1024, .f32⟩
  | .hbm, ⟨107, _⟩ => ⟨S4x8192x1024, .f32⟩
  | .hbm, ⟨108, _⟩ => ⟨S4x8192x1024, .f32⟩
  | .hbm, ⟨109, _⟩ => ⟨S4x8192x1024, .f32⟩
  | .hbm, ⟨110, _⟩ => ⟨S4x8192x1024, .f32⟩
  | .hbm, ⟨111, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_3 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_4 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_5 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_7 : Ref sig .tc := ⟨.hbm, 94, rfl⟩
abbrev main_v74 : Ref sig .tc := ⟨.hbm, 95, rfl⟩
abbrev main_v75 : Ref sig .tc := ⟨.hbm, 96, rfl⟩
abbrev main_cst_8 : Ref sig .tc := ⟨.hbm, 97, rfl⟩
abbrev main_v76 : Ref sig .tc := ⟨.hbm, 98, rfl⟩
abbrev main_v77 : Ref sig .tc := ⟨.hbm, 99, rfl⟩
abbrev main_cst_9 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩

abbrev nD : Nat := 1
abbrev τ : Topo := Topo.v7x

variable {F : FTy → Type} [FloatOps F]
-- ==== Kernel3.lean ====
abbrev S4x8192x1024 : Shape := ⟨3, ![4, 8192, 1024]⟩
abbrev S1x1024 : Shape := ⟨2, ![1, 1024]⟩
abbrev S4x1x1024 : Shape := ⟨3, ![4, 1, 1024]⟩
abbrev S2x1024x3072 : Shape := ⟨3, ![2, 1024, 3072]⟩
abbrev S4x8192x3072 : Shape := ⟨3, ![4, 8192, 3072]⟩
abbrev S1x1024x1024 : Shape := ⟨3, ![1, 1024, 1024]⟩
abbrev S1x1x1024 : Shape := ⟨3, ![1, 1, 1024]⟩
abbrev S1x1024x1536 : Shape := ⟨3, ![1, 1024, 1536]⟩
abbrev S1024x1024 : Shape := ⟨2, ![1024, 1024]⟩
abbrev S1024 : Shape := ⟨1, ![1024]⟩
abbrev S1024x1 : Shape := ⟨2, ![1024, 1]⟩
abbrev S1024x1536 : Shape := ⟨2, ![1024, 1536]⟩

abbrev nBuf : Space → Nat
  | .hbm => 8
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S2x1024x3072, .bf16⟩
  | .hbm, ⟨5, _⟩ => ⟨S2x1024x3072, .bf16⟩
  | .hbm, ⟨6, _⟩ => ⟨S4x8192x3072, .bf16⟩
  | .hbm, ⟨7, _⟩ => ⟨S4x8192x3072, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x1536, .bf16⟩
  | .local _ .vmem, ⟨8, _⟩ => ⟨S1x1024x1536, .bf16⟩
  | .local _ .vmem, ⟨9, _⟩ => ⟨S1x1024x1536, .bf16⟩
  | .local _ .vmem, ⟨10, _⟩ => ⟨S1x1024x1536, .bf16⟩
  | .local _ .vmem, ⟨11, _⟩ => ⟨S1x1024x1536, .bf16⟩
  | .local _ .vmem, ⟨12, _⟩ => ⟨S1x1024x1536, .bf16⟩
  | .local _ .vmem, ⟨13, _⟩ => ⟨S1x1024x1536, .bf16⟩
  | .local _ .vmem, ⟨14, _⟩ => ⟨S1x1024x1536, .bf16⟩
  | .local _ .vmem, ⟨15, _⟩ => ⟨S1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference3Ideal.lean ====
abbrev S4x8192x1024 : Shape := ⟨3, ![4, 8192, 1024]⟩
abbrev S1x1024 : Shape := ⟨2, ![1, 1024]⟩
abbrev S4x1x1024 : Shape := ⟨3, ![4, 1, 1024]⟩
abbrev S2x1024x3072 : Shape := ⟨3, ![2, 1024, 3072]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S4x8192x3072 : Shape := ⟨3, ![4, 8192, 3072]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S4x1x1024, .f32⟩
  | .hbm, ⟨3, _⟩ => ⟨S4x1x1024, .f32⟩
  | .hbm, ⟨4, _⟩ => ⟨S2x1024x3072, .bf16⟩
  | .hbm, ⟨5, _⟩ => ⟨S2x1024x3072, .bf16⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S2x1024x3072, .f32⟩
  | .hbm, ⟨31, _⟩ => ⟨S1x1024x3072, .f32⟩
  | .hbm, ⟨32, _⟩ => ⟨S1024x3072, .f32⟩
  | .hbm, ⟨33, _⟩ => ⟨S4x8192x3072, .f32⟩
  | .hbm, ⟨34, _⟩ => ⟨S2x1024x3072, .f32⟩
  | .hbm, ⟨35, _⟩ => ⟨S1x1024x3072, .f32⟩
  | .hbm, ⟨36, _⟩ => ⟨S1024x3072, .f32⟩
  | .hbm, ⟨37, _⟩ => ⟨S4x8192x3072, .f32⟩
  | .hbm, ⟨38, _⟩ => ⟨S4x8192x3072, .bf16⟩
  | .hbm, ⟨39, _⟩ => ⟨S4x8192x3072, .f32⟩
  | .hbm, ⟨40, _⟩ => ⟨S4x8192x3072, .f32⟩
  | .hbm, ⟨41, _⟩ => ⟨S_, .f32⟩
  | .hbm, ⟨42, _⟩ => ⟨S4x8192x3072, .f32⟩
  | .hbm, ⟨43, _⟩ => ⟨S4x8192x3072, .f32⟩
  | .hbm, ⟨44, _⟩ => ⟨S_, .f32⟩
  | .hbm, ⟨45, _⟩ => ⟨S4x8192x3072, .f32⟩
  | .hbm, ⟨46, _⟩ => ⟨S4x8192x3072, .f32⟩
  | .hbm, ⟨47, _⟩ => ⟨S4x8192x3072, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel4.lean ====
abbrev S4x8192x512 : Shape := ⟨3, ![4, 8192, 512]⟩
abbrev S4x8192x3072 : Shape := ⟨3, ![4, 8192, 3072]⟩
abbrev S2x4x128x128 : Shape := ⟨4, ![2, 4, 128, 128]⟩
abbrev S1x512 : Shape := ⟨2, ![1, 512]⟩
abbrev S2x3x512x1024 : Shape := ⟨4, ![2, 3, 512, 1024]⟩
abbrev S2x1024x1024 : Shape := ⟨3, ![2, 1024, 1024]⟩
abbrev S4x8192x1024 : Shape := ⟨3, ![4, 8192, 1024]⟩
abbrev S4x1x1024 : Shape := ⟨3, ![4, 1, 1024]⟩
abbrev S1x1024 : Shape := ⟨2, ![1, 1024]⟩
abbrev S1x1024x512 : Shape := ⟨3, ![1, 1024, 512]⟩
abbrev S1x16x512 : Shape := ⟨3, ![1, 16, 512]⟩
abbrev S1x1024x1024 : Shape := ⟨3, ![1, 1024, 1024]⟩
abbrev S1x4x128x128 : Shape := ⟨4, ![1, 4, 128, 128]⟩
abbrev S1x3x512x1024 : Shape := ⟨4, ![1, 3, 512, 1024]⟩
abbrev S1x1x1024 : Shape := ⟨3, ![1, 1, 1024]⟩
abbrev S16x512 : Shape := ⟨2, ![16, 512]⟩
abbrev S1024x512 : Shape := ⟨2, ![1024, 512]⟩
abbrev S1056x512 : Shape := ⟨2, ![1056, 512]⟩
abbrev S1056x1 : Shape := ⟨2, ![1056, 1]⟩
abbrev S1024x1 : Shape := ⟨2, ![1024, 1]⟩
abbrev S1056x128 : Shape := ⟨2, ![1056, 128]⟩
abbrev S1024x128 : Shape := ⟨2, ![1024, 128]⟩
abbrev S1x1x128x128 : Shape := ⟨4, ![1, 1, 128, 128]⟩
abbrev S128x128 : Shape := ⟨2, ![128, 128]⟩
abbrev S1x128 : Shape := ⟨2, ![1, 128]⟩
abbrev S1x1x512x1024 : Shape := ⟨4, ![1, 1, 512, 1024]⟩
abbrev S512x1024 : Shape := ⟨2, ![512, 1024]⟩
abbrev S1024x1024 : Shape := ⟨2, ![1024, 1024]⟩
abbrev S1024 : Shape := ⟨1, ![1024]⟩

abbrev nBuf : Space → Nat
  | .hbm => 12
  | .vmem => 27
  | .smem => 0
  | _ => 0

abbrev bufTy : (tb : Table) → Fin (tcTables nBuf tb) → BufTy
  | .hbm, ⟨0, _⟩ => ⟨S4x8192x512, .bf16⟩
  | .hbm, ⟨1, _⟩ => ⟨S4x8192x3072, .bf16⟩
  | .hbm, ⟨2, _⟩ => ⟨S4x8192x512, .bf16⟩
  | .hbm, ⟨3, _⟩ => ⟨S4x8192x3072, .bf16⟩
  | .hbm, ⟨4, _⟩ => ⟨S2x4x128x128, .bf16⟩
  | .hbm, ⟨5, _⟩ => ⟨S1x512, .f32⟩
  | .hbm, ⟨6, _⟩ => ⟨S2x3x512x1024, .bf16⟩
  | .hbm, ⟨7, _⟩ => ⟨S2x1024x1024, .bf16⟩
  | .hbm, ⟨8, _⟩ => ⟨S4x8192x1024, .f32⟩
  | .hbm, ⟨9, _⟩ => ⟨S4x1x1024, .f32⟩
  | .hbm, ⟨10, _⟩ => ⟨S1x1024, .f32⟩
  | .hbm, ⟨11, _⟩ => ⟨S4x8192x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x16x512, .bf16⟩
  | .local _ .vmem, ⟨3, _⟩ => ⟨S1x16x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x16x512, .bf16⟩
  | .local _ .vmem, ⟨7, _⟩ => ⟨S1x16x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x4x128x128, .bf16⟩
  | .local _ .vmem, ⟨17, _⟩ => ⟨S1x512, .f32⟩
  | .local _ .vmem, ⟨18, _⟩ => ⟨S1x3x512x1024, .bf16⟩
  | .local _ .vmem, ⟨19, _⟩ => ⟨S1x1024x1024, .bf16⟩
  | .local _ .vmem, ⟨20, _⟩ => ⟨S1x1024x1024, .f32⟩
  | .local _ .vmem, ⟨21, _⟩ => ⟨S1x1024x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1024, .f32⟩
  | .local _ .vmem, ⟨25, _⟩ => ⟨S1x1024x1024, .f32⟩
  | .local _ .vmem, ⟨26, _⟩ => ⟨S1x1024x1024, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![arg0.toNat, v2.toNat, c3_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c3_i32 : BitVec 32 := 3#32
  let c0_i32 : BitVec 32 := 0#32
  ![arg0.toNat, v2.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference4Ideal.lean ====
abbrev S4x8192x512 : Shape := ⟨3, ![4, 8192, 512]⟩
abbrev S4x8192x3072 : Shape := ⟨3, ![4, 8192, 3072]⟩
abbrev S2x4x128x128 : Shape := ⟨4, ![2, 4, 128, 128]⟩
abbrev S1x512 : Shape := ⟨2, ![1, 512]⟩
abbrev S2x3x512x1024 : Shape := ⟨4, ![2, 3, 512, 1024]⟩
abbrev S2x1024x1024 : Shape := ⟨3, ![2, 1024, 1024]⟩
abbrev S4x8192x1024 : Shape := ⟨3, ![4, 8192, 1024]⟩
abbrev S4x1x1024 : Shape := ⟨3, ![4, 1, 1024]⟩
abbrev S1x1024 : Shape := ⟨2, ![1, 1024]⟩
abbrev S1x4x128x128 : Shape := ⟨4, ![1, 4, 128, 128]⟩
abbrev S4x128x128 : Shape := ⟨3, ![4, 128, 128]⟩
abbrev S512 : Shape := ⟨1, ![512]⟩
abbrev S8192 : Shape := ⟨1, ![8192]⟩
abbrev S_ : Shape := ⟨0, ![]⟩
abbrev S4x8192x128 : Shape := ⟨3, ![4, 8192, 128]⟩
abbrev S4x8194x128 : Shape := ⟨3, ![4, 8194, 128]⟩
abbrev S1x8192x1 : Shape := ⟨3, ![1, 8192, 1]⟩
abbrev S4x8196x128 : Shape := ⟨3, ![4, 8196, 128]⟩
abbrev S4x8200x128 : Shape := ⟨3, ![4, 8200, 128]⟩
abbrev S4x8208x128 : Shape := ⟨3, ![4, 8208, 128]⟩
abbrev S4x8192x1x128 : Shape := ⟨4, ![4, 8192, 1, 128]⟩
abbrev S4x8192x4x128 : Shape := ⟨4, ![4, 8192, 4, 128]⟩
abbrev S4x128x4x8192 : Shape := ⟨4, ![4, 128, 4, 8192]⟩
abbrev S1x1x512 : Shape := ⟨3, ![1, 1, 512]⟩
abbrev S4x8192x1x512 : Shape := ⟨4, ![4, 8192, 1, 512]⟩
abbrev S4x8192x3x512 : Shape := ⟨4, ![4, 8192, 3, 512]⟩
abbrev S1x3x512x1024 : Shape := ⟨4, ![1, 3, 512, 1024]⟩
abbrev S3x512x1024 : Shape := ⟨3, ![3, 512, 1024]⟩
abbrev S3x1024x4x8192 : Shape := ⟨4, ![3, 1024, 4, 8192]⟩
abbrev S4x8192x3x1024 : Shape := ⟨4, ![4, 8192, 3, 1024]⟩
abbrev S1x1024x1024 : Shape := ⟨3, ![1, 1024, 1024]⟩
abbrev S1024x1024 : Shape := ⟨2, ![1024, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 225
  | .vmem => 0
  | .smem => 0
  | _ => 0

abbrev hbmTy0_0 (i : Nat) : BufTy := match i % 128 with
  | 0 => ⟨S4x8192x512, .bf16⟩
  | 1 => ⟨S4x8192x3072, .bf16⟩
  | 2 => ⟨S4x8192x512, .bf16⟩
  | 3 => ⟨S4x8192x3072, .bf16⟩
  | 4 => ⟨S2x4x128x128, .bf16⟩
  | 5 => ⟨S1x512, .f32⟩
  | 6 => ⟨S2x3x512x1024, .bf16⟩
  | 7 => ⟨S2x1024x1024, .bf16⟩
  | 8 => ⟨S4x8192x1024, .f32⟩
  | 9 => ⟨S4x1x1024, .f32⟩
  | 10 => ⟨S1x1024, .f32⟩
  | 11 => ⟨S4x8192x3072, .f32⟩
  | 12 => ⟨S4x8192x512, .f32⟩
  | 13 => ⟨S2x4x128x128, .f32⟩
  | 14 => ⟨S1x4x128x128, .f32⟩
  | 15 => ⟨S4x128x128, .f32⟩
  | 16 => ⟨S512, .f32⟩
  | 17 => ⟨S8192, .i32⟩
  | 18 => ⟨S_, .i32⟩
  | 19 => ⟨S8192, .i32⟩
  | 20 => ⟨S8192, .i32⟩
  | 21 => ⟨S_, .i32⟩
  | 22 => ⟨S8192, .i32⟩
  | 23 => ⟨S8192, .i32⟩
  | 24 => ⟨S_, .i32⟩
  | 25 => ⟨S8192, .i32⟩
  | 26 => ⟨S8192, .i32⟩
  | 27 => ⟨S_, .i32⟩
  | 28 => ⟨S8192, .i32⟩
  | 29 => ⟨S8192, .i32⟩
  | 30 => ⟨S4x8192x128, .f32⟩
  | 31 => ⟨S_, .i32⟩
  | 32 => ⟨S_, .f32⟩
  | 33 => ⟨S4x8194x128, .f32⟩
  | 34 => ⟨S4x8192x128, .f32⟩
  | 35 => ⟨S_, .f32⟩
  | 36 => ⟨S4x8192x128, .f32⟩
  | 37 => ⟨S4x8192x128, .f32⟩
  | 38 => ⟨S4x8192x128, .f32⟩
  | 39 => ⟨S4x8192x128, .f32⟩
  | 40 => ⟨S8192, .i32⟩
  | 41 => ⟨S8192, .f32⟩
  | 42 => ⟨S1x8192x1, .f32⟩
  | 43 => ⟨S4x8192x128, .f32⟩
  | 44 => ⟨S4x8192x128, .f32⟩
  | 45 => ⟨S4x8192x128, .f32⟩
  | 46 => ⟨S_, .i32⟩
  | 47 => ⟨S8192, .i32⟩
  | 48 => ⟨S8192, .i32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S_, .i32⟩
  | 56 => ⟨S8192, .i32⟩
  | 57 => ⟨S8192, .i32⟩
  | 58 => ⟨S4x8192x128, .f32⟩
  | 59 => ⟨S_, .i32⟩
  | 60 => ⟨S_, .f32⟩
  | 61 => ⟨S4x8196x128, .f32⟩
  | 62 => ⟨S4x8192x128, .f32⟩
  | 63 => ⟨S_, .f32⟩
  | 64 => ⟨S4x8192x128, .f32⟩
  | 65 => ⟨S4x8192x128, .f32⟩
  | 66 => ⟨S4x8192x128, .f32⟩
  | 67 => ⟨S4x8192x128, .f32⟩
  | 68 => ⟨S4x8192x128, .f32⟩
  | 69 => ⟨S4x8192x128, .f32⟩
  | 70 => ⟨S4x8192x128, .f32⟩
  | 71 => ⟨S4x8192x128, .f32⟩
  | 72 => ⟨S8192, .i32⟩
  | 73 => ⟨S8192, .f32⟩
  | 74 => ⟨S1x8192x1, .f32⟩
  | 75 => ⟨S4x8192x128, .f32⟩
  | 76 => ⟨S4x8192x128, .f32⟩
  | 77 => ⟨S4x8192x128, .f32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S4x8192x128, .f32⟩
  | 91 => ⟨S_, .i32⟩
  | 92 => ⟨S_, .f32⟩
  | 93 => ⟨S4x8200x128, .f32⟩
  | 94 => ⟨S4x8192x128, .f32⟩
  | 95 => ⟨S_, .f32⟩
  | 96 => ⟨S4x8192x128, .f32⟩
  | 97 => ⟨S4x8192x128, .f32⟩
  | 98 => ⟨S4x8192x128, .f32⟩
  | 99 => ⟨S4x8192x128, .f32⟩
  | 100 => ⟨S4x8192x128, .f32⟩
  | 101 => ⟨S4x8192x128, .f32⟩
  | 102 => ⟨S4x8192x128, .f32⟩
  | 103 => ⟨S4x8192x128, .f32⟩
  | 104 => ⟨S4x8192x128, .f32⟩
  | 105 => ⟨S4x8192x128, .f32⟩
  | 106 => ⟨S4x8192x128, .f32⟩
  | 107 => ⟨S4x8192x128, .f32⟩
  | 108 => ⟨S4x8192x128, .f32⟩
  | 109 => ⟨S4x8192x128, .f32⟩
  | 110 => ⟨S4x8192x128, .f32⟩
  | 111 => ⟨S4x8192x128, .f32⟩
  | 112 => ⟨S8192, .i32⟩
  | 113 => ⟨S8192, .f32⟩
  | 114 => ⟨S1x8192x1, .f32⟩
  | 115 => ⟨S4x8192x128, .f32⟩
  | 116 => ⟨S4x8192x128, .f32⟩
  | 117 => ⟨S4x8192x128, .f32⟩
  | 118 => ⟨S_, .i32⟩
  | 119 => ⟨S8192, .i32⟩
  | 120 => ⟨S8192, .i32⟩
  | 121 => ⟨S_, .i32⟩
  | 122 => ⟨S8192, .i32⟩
  | 123 => ⟨S8192, .i32⟩
  | 124 => ⟨S_, .i32⟩
  | 125 => ⟨S8192, .i32⟩
  | 126 => ⟨S8192, .i32⟩
  | 127 => ⟨S_, .i32⟩
  | _ => ⟨S4x8192x512, .bf16⟩

abbrev hbmTy0_1 (i : Nat) : BufTy := match i % 128 with
  | 0 => ⟨S8192, .i32⟩
  | 1 => ⟨S8192, .i32⟩
  | 2 => ⟨S4x8192x128, .f32⟩
  | 3 => ⟨S_, .i32⟩
  | 4 => ⟨S_, .f32⟩
  | 5 => ⟨S4x8208x128, .f32⟩
  | 6 => ⟨S4x8192x128, .f32⟩
  | 7 => ⟨S_, .f32⟩
  | 8 => ⟨S4x8192x128, .f32⟩
  | 9 => ⟨S4x8192x128, .f32⟩
  | 10 => ⟨S4x8192x128, .f32⟩
  | 11 => ⟨S4x8192x128, .f32⟩
  | 12 => ⟨S4x8192x128, .f32⟩
  | 13 => ⟨S4x8192x128, .f32⟩
  | 14 => ⟨S4x8192x128, .f32⟩
  | 15 => ⟨S4x8192x128, .f32⟩
  | 16 => ⟨S4x8192x128, .f32⟩
  | 17 => ⟨S4x8192x128, .f32⟩
  | 18 => ⟨S4x8192x128, .f32⟩
  | 19 => ⟨S4x8192x128, .f32⟩
  | 20 => ⟨S4x8192x128, .f32⟩
  | 21 => ⟨S4x8192x128, .f32⟩
  | 22 => ⟨S4x8192x128, .f32⟩
  | 23 => ⟨S4x8192x128, .f32⟩
  | 24 => ⟨S4x8192x128, .f32⟩
  | 25 => ⟨S4x8192x128, .f32⟩
  | 26 => ⟨S4x8192x128, .f32⟩
  | 27 => ⟨S4x8192x128, .f32⟩
  | 28 => ⟨S4x8192x128, .f32⟩
  | 29 => ⟨S4x8192x128, .f32⟩
  | 30 => ⟨S4x8192x128, .f32⟩
  | 31 => ⟨S4x8192x128, .f32⟩
  | 32 => ⟨S4x8192x128, .f32⟩
  | 33 => ⟨S4x8192x128, .f32⟩
  | 34 => ⟨S4x8192x128, .f32⟩
  | 35 => ⟨S4x8192x128, .f32⟩
  | 36 => ⟨S4x8192x128, .f32⟩
  | 37 => ⟨S4x8192x128, .f32⟩
  | 38 => ⟨S4x8192x128, .f32⟩
  | 39 => ⟨S4x8192x128, .f32⟩
  | 40 => ⟨S8192, .i32⟩
  | 41 => ⟨S8192, .f32⟩
  | 42 => ⟨S1x8192x1, .f32⟩
  | 43 => ⟨S4x8192x128, .f32⟩
  | 44 => ⟨S4x8192x128, .f32⟩
  | 45 => ⟨S4x8192x128, .f32⟩
  | 46 => ⟨S4x8192x1x128, .f32⟩
  | 47 => ⟨S4x8192x1x128, .f32⟩
  | 48 => ⟨S4x8192x1x128, .f32⟩
  | 49 => ⟨S4x8192x1x128, .f32⟩
  | 50 => ⟨S4x8192x4x128, .f32⟩
  | 51 => ⟨S4x128x4x8192, .f32⟩
  | 52 => ⟨S4x8192x4x128, .f32⟩
  | 53 => ⟨S4x8192x512, .f32⟩
  | 54 => ⟨S1x1x512, .f32⟩
  | 55 => ⟨S4x8192x512, .f32⟩
  | 56 => ⟨S4x8192x512, .f32⟩
  | 57 => ⟨S4x8192x512, .f32⟩
  | 58 => ⟨S4x8192x512, .f32⟩
  | 59 => ⟨S4x8192x1x512, .f32⟩
  | 60 => ⟨S4x8192x1x512, .f32⟩
  | 61 => ⟨S4x8192x1x512, .f32⟩
  | 62 => ⟨S4x8192x3x512, .f32⟩
  | 63 => ⟨S2x3x512x1024, .f32⟩
  | 64 => ⟨S1x3x512x1024, .f32⟩
  | 65 => ⟨S3x512x1024, .f32⟩
  | 66 => ⟨S3x1024x4x8192, .f32⟩
  | 67 => ⟨S4x8192x3x1024, .f32⟩
  | 68 => ⟨S4x8192x3072, .f32⟩
  | 69 => ⟨S4x8192x3x1024, .f32⟩
  | 70 => ⟨S4x8192x3x1024, .f32⟩
  | 71 => ⟨S_, .f32⟩
  | 72 => ⟨S4x8192x1024, .f32⟩
  | 73 => ⟨S2x1024x1024, .f32⟩
  | 74 => ⟨S1x1024x1024, .f32⟩
  | 75 => ⟨S1024x1024, .f32⟩
  | 76 => ⟨S4x8192x1024, .f32⟩
  | 77 => ⟨S1024, .f32⟩
  | 78 => ⟨S4x8192x1024, .f32⟩
  | 79 => ⟨S_, .f32⟩
  | 80 => ⟨S4x8192, .f32⟩
  | 81 => ⟨S4x8192x1, .f32⟩
  | 82 => ⟨S_, .f32⟩
  | 83 => ⟨S4x8192x1, .f32⟩
  | 84 => ⟨S4x8192x1, .f32⟩
  | 85 => ⟨S_, .f32⟩
  | 86 => ⟨S4x8192x1, .f32⟩
  | 87 => ⟨S4x8192x1, .f32⟩
  | 88 => ⟨S4x8192x1, .f32⟩
  | 89 => ⟨S4x8192x1024, .f32⟩
  | 90 => ⟨S4x8192x1024, .f32⟩
  | 91 => ⟨S1x1x1024, .f32⟩
  | 92 => ⟨S4x8192x1024, .f32⟩
  | 93 => ⟨S4x8192x1024, .f32⟩
  | 94 => ⟨S4x8192x1024, .f32⟩
  | 95 => ⟨S4x8192x1024, .f32⟩
  | 96 => ⟨S4x8192x1024, .f32⟩
  | _ => ⟨S4x8192x512, .bf16⟩

abbrev hbmTy (i : Nat) : BufTy := match i / 128 with
  | 0 => hbmTy0_0 i
  | 1 => hbmTy0_1 i
  | _ => ⟨S4x8192x512, .bf16⟩

abbrev bufTy : (tb : Table) → Fin (tcTables nBuf tb) → BufTy
  | .hbm, ⟨i, _⟩ => hbmTy i
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_call1_v0 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_call2_v0 : Ref sig .tc := ⟨.hbm, 92, rfl⟩
abbrev main_v62 : Ref sig .tc := ⟨.hbm, 93, rfl⟩
abbrev main_v63 : Ref sig .tc := ⟨.hbm, 94, rfl⟩
abbrev main_cst_15 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_16 : Ref sig .tc := ⟨.hbm, 118, rfl⟩
abbrev main_v86 : Ref sig .tc := ⟨.hbm, 119, rfl⟩
abbrev main_v87 : Ref sig .tc := ⟨.hbm, 120, rfl⟩
abbrev main_c_17 : Ref sig .tc := ⟨.hbm, 121, rfl⟩
abbrev main_v88 : Ref sig .tc := ⟨.hbm, 122, rfl⟩
abbrev main_v89 : Ref sig .tc := ⟨.hbm, 123, rfl⟩
abbrev main_c_18 : Ref sig .tc := ⟨.hbm, 124, rfl⟩
abbrev main_v90 : Ref sig .tc := ⟨.hbm, 125, rfl⟩
abbrev main_v91 : Ref sig .tc := ⟨.hbm, 126, rfl⟩
abbrev main_c_19 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_20 : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_cst_21 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_cst_22 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_cst_23 : Ref sig .tc := ⟨.hbm, 207, rfl⟩
abbrev main_v167 : Ref sig .tc := ⟨.hbm, 208, rfl⟩
abbrev main_v168 : Ref sig .tc := ⟨.hbm, 209, rfl⟩
abbrev main_cst_24 : Ref sig .tc := ⟨.hbm, 210, rfl⟩
abbrev main_v169 : Ref sig .tc := ⟨.hbm, 211, rfl⟩
abbrev main_v170 : Ref sig .tc := ⟨.hbm, 212, rfl⟩
abbrev main_cst_25 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩

abbrev nD : Nat := 1
abbrev τ : Topo := Topo.v7x

variable {F : FTy → Type} [FloatOps F]
-- ==== Proof.AttnReal.lean ====
module

public import Idealize.ShloMosaic.PureOps.Ideal

/-! The arithmetic of a softmax taken in steps, over real numbers inside the extended reals: no arrays here. -/

@[expose] public section

noncomputable section

namespace Cert.AttnReal

open Idealize.ShloMosaic

/-- A sum of reals, taken in the extended reals. -/
theorem sum_coe {n : ℕ} (f : Fin n → ℝ) : (∑ k, ((f k : ℝ) : EReal)) = ((∑ k, f k : ℝ) : EReal) := by
  induction n with
  | zero => simp
  | succ n ih => rw [Fin.sum_univ_succ, Fin.sum_univ_succ, ih, ← EReal.coe_add]

/-- The maximum of at least one real, from `-∞`, is a real. -/
theorem fold_max_real {n : ℕ} (hn : 0 < n) (f : Fin n → ℝ) :
    ∃ M : ℝ, (Finset.univ : Finset (Fin n)).fold max (⊥ : EReal) (fun k => ((f k : ℝ) : EReal)) = (M : EReal) := by
  have key : ∀ s : Finset (Fin n), s = ∅ ∨ ∃ M : ℝ, s.fold max (⊥ : EReal) (fun k => ((f k : ℝ) : EReal)) = (M : EReal) := by
    intro s
    induction s using Finset.induction_on with
    | empty => exact Or.inl rfl
    | insert a s ha ih =>
      right
      rw [Finset.fold_insert ha]
      rcases ih with rfl | ⟨M, hM⟩
      · exact ⟨f a, by simp⟩
      · exact ⟨max (f a) M, by rw [hM]; exact (EReal.coe_strictMono.monotone.map_max).symm⟩
  rcases key Finset.univ with h | h
  · exact absurd (h ▸ Finset.mem_univ (⟨0, hn⟩ : Fin n)) (by simp)
  · exact h

theorem exp2_sub (a b : ℝ) : Ideal.exp2 ((a : EReal) - (b : EReal)) = (((2 : ℝ) ^ (-b) * (2 : ℝ) ^ a : ℝ) : EReal) := by
  rw [← EReal.coe_sub, Ideal.exp2_coe, ← Real.rpow_add two_pos]
  norm_num [sub_eq_neg_add]

/-- What the running state of one row knows: `m` holds in every lane the same real `M`, and lane `l` of `a` holds
    `2 ^ (-M)` times the weighted sum `N l` so far. -/
def Holds (m a : Fin 128 → EReal) (N : Fin 128 → ℝ) : Prop :=
  ∃ M : ℝ, (∀ l, m l = (M : EReal)) ∧ ∀ l, a l = (((2 : ℝ) ^ (-M) * N l : ℝ) : EReal)

/-- One block of `n` keys: the new maximum of lane `l`. -/
def newMax {n : ℕ} (m : Fin 128 → EReal) (s : Fin n → EReal) (l : Fin 128) : EReal :=
  max (m l) ((Finset.univ : Finset (Fin n)).fold max (⊥ : EReal) s)

/-- One block of `n` keys: the new accumulator of lane `l`; key `t` takes the maximum of lane `t % 128`. -/
def newAcc {n : ℕ} (m a : Fin 128 → EReal) (s : Fin n → EReal) (v : Fin n → Fin 128 → EReal) (l : Fin 128) : EReal :=
  Ideal.exp2 (m l - newMax m s l) * a l
    + ∑ t : Fin n, Ideal.exp2 (s t - newMax m s ⟨t.val % 128, Nat.mod_lt _ (by decide)⟩) * v t l

/-- The sum of a block of reals weighted by powers of two, off a maximum `M`. -/
theorem block_sum {n : ℕ} (s : Fin n → ℝ) (v : Fin n → ℝ) (M : ℝ) :
    (∑ t : Fin n, Ideal.exp2 (((s t : ℝ) : EReal) - (M : EReal)) * ((v t : ℝ) : EReal))
      = (((2 : ℝ) ^ (-M) * ∑ t, (2 : ℝ) ^ (s t) * v t : ℝ) : EReal) := by
  rw [Finset.mul_sum, ← sum_coe]
  refine Finset.sum_congr rfl fun t _ => ?_
  rw [exp2_sub, ← EReal.coe_mul, mul_assoc]

/-- The first block: the state before holds `-∞` and zeros. -/
theorem first {n : ℕ} (hn : 0 < n) (m a : Fin 128 → EReal) (hm : ∀ l, m l = ⊥) (ha : ∀ l, a l = 0)
    (s : Fin n → ℝ) (v : Fin n → Fin 128 → ℝ) :
    Holds (newMax m fun t => ((s t : ℝ) : EReal)) (newAcc m a (fun t => ((s t : ℝ) : EReal)) fun t l => ((v t l : ℝ) : EReal))
      fun l => ∑ t, (2 : ℝ) ^ (s t) * v t l := by
  obtain ⟨M, hM⟩ := fold_max_real hn s
  have hnew : ∀ l, newMax m (fun t => ((s t : ℝ) : EReal)) l = (M : EReal) := fun l => by
    rw [newMax, hm, hM]; exact max_eq_right bot_le
  refine ⟨M, hnew, fun l => ?_⟩
  rw [newAcc, ha, mul_zero, zero_add]
  simp only [hnew]
  exact block_sum s (fun t => v t l) M

/-- A later block. -/
theorem step {n : ℕ} (hn : 0 < n) (m a : Fin 128 → EReal) (N : Fin 128 → ℝ) (h : Holds m a N)
    (s : Fin n → ℝ) (v : Fin n → Fin 128 → ℝ) :
    Holds (newMax m fun t => ((s t : ℝ) : EReal)) (newAcc m a (fun t => ((s t : ℝ) : EReal)) fun t l => ((v t l : ℝ) : EReal))
      fun l => N l + ∑ t, (2 : ℝ) ^ (s t) * v t l := by
  obtain ⟨M₀, hm, ha⟩ := h
  obtain ⟨M₁, hM₁⟩ := fold_max_real hn s
  have hnew : ∀ l, newMax m (fun t => ((s t : ℝ) : EReal)) l = ((max M₀ M₁ : ℝ) : EReal) := fun l => by
    rw [newMax, hm, hM₁]; exact (EReal.coe_strictMono.monotone.map_max).symm
  refine ⟨max M₀ M₁, hnew, fun l => ?_⟩
  rw [newAcc, ha, hm, hnew, exp2_sub]
  simp only [hnew]
  rw [block_sum s (fun t => v t l), ← EReal.coe_mul, ← EReal.coe_add, mul_add]
  have h1 : (2 : ℝ) ^ M₀ * (2 : ℝ) ^ (-M₀) = 1 := by rw [← Real.rpow_add two_pos]; simp
  congr 2
  calc (2 : ℝ) ^ (-(max M₀ M₁)) * 2 ^ M₀ * (2 ^ (-M₀) * N l)
      = 2 ^ (-(max M₀ M₁)) * ((2 : ℝ) ^ M₀ * (2 : ℝ) ^ (-M₀)) * N l := by ring
    _ = _ := by rw [h1, mul_one]

/-- A quotient of reals. -/
theorem div_real (x y : ℝ) (hy : y ≠ 0) : Ideal.div (x : EReal) (y : EReal) = ((x / y : ℝ) : EReal) := by
  rw [Ideal.div_coe hy, ← EReal.coe_mul, mul_one_div]

/-- The last step: the quotient of two lanes no longer shows the maximum. -/
theorem quot (m a : Fin 128 → EReal) (N : Fin 128 → ℝ) (h : Holds m a N) (l : Fin 128) (h0 : N 0 ≠ 0) :
    Ideal.div (a l) (a 0) = ((N l / N 0 : ℝ) : EReal) := by
  obtain ⟨M, -, ha⟩ := h
  have hp : (2 : ℝ) ^ (-M) ≠ 0 := (Real.rpow_pos_of_pos two_pos _).ne'
  rw [ha, ha, div_real _ _ (mul_ne_zero hp h0), mul_div_mul_left _ _ hp]

/-- A softmax over `n` real scores in base `e`, the scores scaled by `log 2`: its average of `v` is the weighted sum in base 2. -/
theorem softmax_avg {n : ℕ} (hn : 0 < n) (s v : Fin n → ℝ) (M : ℝ) :
    (∑ k, Ideal.div (Ideal.exp (((s k * Real.log 2 : ℝ) : EReal) - (M : EReal)))
        (∑ j, Ideal.exp (((s j * Real.log 2 : ℝ) : EReal) - (M : EReal))) * ((v k : ℝ) : EReal))
      = (((∑ k, (2 : ℝ) ^ (s k) * v k) / ∑ k, (2 : ℝ) ^ (s k) : ℝ) : EReal) := by
  have he : ∀ k, Ideal.exp (((s k * Real.log 2 : ℝ) : EReal) - (M : EReal)) = ((Real.exp (-M) * (2 : ℝ) ^ (s k) : ℝ) : EReal) := fun k => by
    rw [← EReal.coe_sub, Real.rpow_def_of_pos two_pos, ← Real.exp_add]
    show ((Real.exp _ : ℝ) : EReal) = _
    congr 2; ring
  have hpos : 0 < ∑ k, (2 : ℝ) ^ (s k) :=
    Finset.sum_pos (fun k _ => Real.rpow_pos_of_pos two_pos _) ⟨⟨0, hn⟩, Finset.mem_univ _⟩
  have hE : Real.exp (-M) ≠ 0 := Real.exp_ne_zero _
  simp only [he]
  rw [sum_coe, ← Finset.mul_sum]
  simp only [div_real _ _ (mul_ne_zero hE hpos.ne'), mul_div_mul_left _ _ hE, ← EReal.coe_mul]
  rw [sum_coe, Finset.sum_div]
  congr 2
  funext k
  ring

end Cert.AttnReal
-- ==== Proof.FlashHead.lean ====
module

public import proofs.«01_k».proof.Proof.Gen.KernelIdeal.Value
public import proofs.«01_k».proof.Proof.AttnReal
public import Idealize.ShloMosaic.Lib.Pipeline.ValueKit
public import Idealize.ShloMosaic.Lib.Pipeline.ReadBack

/-! One head's pass over one block of keys, read element by element. -/

@[expose] public section

set_option maxRecDepth 16384

noncomputable section

namespace Cert.Flash

open Idealize.ShloMosaic Idealize.ShloMosaic.TcCoe Idealize.SL.Sem
open Cert.KernelIdeal Cert.KernelIdeal.Gen

/-- Two copies of a tile side by side. -/
theorem rep2 (w : FVec Ideal S1024x128 .f32) : concatenate S1024x256 1 [⟨S1024x128, w⟩, ⟨S1024x128, w⟩] concatenates_S1024x128_S1024x128_S1024x256_d1
    = fun i => w (ix2 (i 0) ⟨(i 1).val % 128, Nat.mod_lt _ (by decide)⟩) := by
  funext i
  refine concatenate_replicate_apply (1 : Fin S1024x256.rank) 2 w _ rfl i _ rfl ?_
  intro b hb
  fin_cases b
  · rfl
  · exact absurd rfl hb

/-- Sixteen copies of a tile side by side. -/
theorem rep16 (w : FVec Ideal S1024x128 .f32) : concatenate S1024x2048 1 [⟨S1024x128, w⟩, ⟨S1024x128, w⟩, ⟨S1024x128, w⟩, ⟨S1024x128, w⟩, ⟨S1024x128, w⟩, ⟨S1024x128, w⟩, ⟨S1024x128, w⟩, ⟨S1024x128, w⟩, ⟨S1024x128, w⟩, ⟨S1024x128, w⟩, ⟨S1024x128, w⟩, ⟨S1024x128, w⟩, ⟨S1024x128, w⟩, ⟨S1024x128, w⟩, ⟨S1024x128, w⟩, ⟨S1024x128, w⟩] concatenates_S1024x128_S1024x128_S1024x128_S1024x128_S1024x128_S1024x128_S1024x128_S1024x128_S1024x128_S1024x128_S1024x128_S1024x128_S1024x128_S1024x128_S1024x128_S1024x128_S1024x2048_d1
    = fun i => w (ix2 (i 0) ⟨(i 1).val % 128, Nat.mod_lt _ (by decide)⟩) := by
  funext i
  refine concatenate_replicate_apply (1 : Fin S1024x2048.rank) 16 w _ rfl i _ rfl ?_
  intro b hb
  fin_cases b
  · rfl
  · exact absurd rfl hb

/-- The lanes below 64 are told apart by a comparison of the lane's number. -/
theorem sel_lt (x : Fin 128) (a b : EReal) :
    Scalar.select (IntOp.cmpi CmpIPredicate.slt (BitVec.ofNat 32 x.val) 64#32) a b = if x.val < 64 then a else b := by
  have h : ∀ x : Fin 128, IntOp.cmpi CmpIPredicate.slt (BitVec.ofNat 32 x.val) 64#32 = if x.val < 64 then 1#1 else 0#1 := by decide
  rw [h]
  split_ifs <;> rfl

/-- So is lane zero. -/
theorem sel_eq (x : Fin 128) (a b : EReal) :
    Scalar.select (IntOp.cmpi CmpIPredicate.eq (BitVec.ofNat 32 x.val) 0#32) a b = if x.val = 0 then a else b := by
  have h : ∀ x : Fin 128, IntOp.cmpi CmpIPredicate.eq (BitVec.ofNat 32 x.val) 0#32 = if x.val = 0 then 1#1 else 0#1 := by decide
  rw [h]
  split_ifs <;> rfl

/-- The bits of minus infinity. -/
theorem neg_inf : Ideal.ofBits FTy.f32 0xFF800000#32 = ⊥ := by
  simp [Ideal.ofBits, Ideal.ieee]

/-- The score of one key: the query's lanes below 64 meet the head's part, the others the part all heads share. -/
def score {n : ℕ} (q : (⟨3, ![1, 1024, 128]⟩ : Shape).Idx → EReal) (kv vx : (⟨3, ![1, n, 128]⟩ : Shape).Idx → EReal)
    (r : Fin 1024) (k : Fin n) : EReal :=
  ∑ d : Fin 128, q (ix3 0 r d) * if d.val < 64 then kv (ix3 0 k d) else vx (ix3 0 k d)

/-- What one key adds to a lane: lane zero counts, the lanes from 64 on hold the values. -/
def val {n : ℕ} (kv : (⟨3, ![1, n, 128]⟩ : Shape).Idx → EReal) (k : Fin n) (l : Fin 128) : EReal :=
  if l.val < 64 then (if l.val = 0 then 1 else 0) else kv (ix3 0 k l)

/-- The row's maximum after a block of latent keys. -/
theorem lat_max (q : FVec Ideal S1x1024x128 .bf16) (kv vx : FVec Ideal S1x2048x128 .bf16) (mp : FVec Ideal S1x1024x128 .f32)
    (r : Fin 1024) (l : Fin 128) : k0_pay4 (F := Ideal) (k0_pay154 q kv vx) mp (ix3 0 r l)
      = AttnReal.newMax (fun l => mp (ix3 0 r l)) (score q kv vx r) l := by
  pointwise [k0_pay4, k0_pay154, k0_pay1, k0_pay2, k0_pay151, k0_pay152]
  simp only [sel_lt, neg_inf]
  rfl

/-- The row's sums after a block of latent keys. -/
theorem lat_acc (q : FVec Ideal S1x1024x128 .bf16) (kv vx : FVec Ideal S1x2048x128 .bf16) (mp ap : FVec Ideal S1x1024x128 .f32)
    (r : Fin 1024) (l : Fin 128) : k0_pay3 (F := Ideal) (k0_pay153 kv) (k0_pay154 q kv vx) mp ap (ix3 0 r l)
      = AttnReal.newAcc (fun l => mp (ix3 0 r l)) (fun l => ap (ix3 0 r l)) (score q kv vx r) (val kv) l := by
  unfold k0_pay3
  simp only [rep16]
  pointwise [k0_pay153, k0_pay154, k0_pay1, k0_pay2, k0_pay151, k0_pay152]
  simp only [sel_lt, sel_eq, neg_inf]
  rfl

/-- The row's maximum after the block of context keys. -/
theorem ctx_max (q : FVec Ideal S1x1024x128 .bf16) (kv vx : FVec Ideal S1x256x128 .bf16) (mp : FVec Ideal S1x1024x128 .f32)
    (r : Fin 1024) (l : Fin 128) : k0_pay15 (F := Ideal) (k0_pay13 q kv vx mp) (ix3 0 r l)
      = AttnReal.newMax (fun l => mp (ix3 0 r l)) (score q kv vx r) l := by
  pointwise [k0_pay15, k0_pay13, k0_pay11, k0_pay12, k0_pay8, k0_pay9]
  simp only [sel_lt, neg_inf]
  rfl

/-- The row's sums after the block of context keys. -/
theorem ctx_acc (q : FVec Ideal S1x1024x128 .bf16) (kv vx : FVec Ideal S1x256x128 .bf16) (mp ap : FVec Ideal S1x1024x128 .f32)
    (r : Fin 1024) (l : Fin 128) : k0_pay14 (F := Ideal) (k0_pay10 kv) (k0_pay11 q kv vx) (k0_pay12 mp) (k0_pay13 q kv vx mp) ap (ix3 0 r l)
      = AttnReal.newAcc (fun l => mp (ix3 0 r l)) (fun l => ap (ix3 0 r l)) (score q kv vx r) (val kv) l := by
  unfold k0_pay14
  simp only [rep2]
  pointwise [k0_pay10, k0_pay11, k0_pay12, k0_pay13, k0_pay8, k0_pay9]
  simp only [sel_lt, sel_eq, neg_inf]
  rfl

/-- A head's part of the result: the value lanes over the count. -/
theorem out_at (a : FVec Ideal S1x1024x128 .f32) (r : Fin 1024) (d : Fin 64) : k0_pay5 (F := Ideal) a (ix3 0 r d)
    = Ideal.div (a (ix3 0 r ⟨64 + d.val, by omega⟩)) (a (ix3 0 r 0)) := by
  pointwise [k0_pay5]

end Cert.Flash
-- ==== Proof.FlashBody.lean ====
module

public import proofs.«01_k».proof.Proof.FlashHead

/-! What one point of the attention leaves, from the blocks it reads and what the point before left. -/

@[expose] public section

set_option maxRecDepth 16384

noncomputable section

namespace Cert.Flash

open Idealize.ShloMosaic Idealize.ShloMosaic.TcCoe Idealize.SL.Sem
open Cert.KernelIdeal Cert.KernelIdeal.Gen

/-- The lanes of head `h`. -/
def headOf {n : ℕ} (X : (⟨3, ![1, n, 1024]⟩ : Shape).Idx → EReal) (h : Fin 8) : (⟨3, ![1, n, 128]⟩ : Shape).Idx → EReal :=
  fun i => X (ix3 0 (i 1) ⟨128 * h.val + (i 2).val, by have := h.isLt; have h2 : (i 2).val < 128 := (i 2).isLt; omega⟩)

/-- The plane of head `h`. -/
def plane (X : S8x1024x128.Idx → EReal) (h : Fin 8) : S1x1024x128.Idx → EReal := fun i => X (ix3 h (i 1) (i 2))

theorem inbH (n : ℕ) (h : Fin 8) : ∀ a : Fin 3, (![0, 0, 128 * h.val] : Fin 3 → ℕ) a + (![1, n, 128] : Fin 3 → ℕ) a ≤ (![1, n, 1024] : Fin 3 → ℕ) a := by
  have := h.isLt
  intro a
  fin_cases a <;> simp <;> omega

theorem inbP (h : Fin 8) : ∀ a : Fin 3, (![h.val, 0, 0] : Fin 3 → ℕ) a + (![1, 1024, 128] : Fin 3 → ℕ) a ≤ (![8, 1024, 128] : Fin 3 → ℕ) a := by
  have := h.isLt
  intro a
  fin_cases a <;> simp <;> omega

/-- A load of head `h`'s lanes. -/
abbrev ldH {n : ℕ} (X : (⟨3, ![1, n, 1024]⟩ : Shape).Idx → EReal) (h : Fin 8) : (⟨3, ![1, n, 128]⟩ : Shape).Idx → EReal :=
  fun i => X ((Rect.unit (s := ⟨3, ![1, n, 1024]⟩) ![0, 0, 128 * h.val] ![1, n, 128] (inbH n h)).idx i)

/-- A load of head `h`'s plane. -/
abbrev ldP (X : S8x1024x128.Idx → EReal) (h : Fin 8) : S1x1024x128.Idx → EReal :=
  fun i => X ((Rect.unit (s := S8x1024x128) ![h.val, 0, 0] ![1, 1024, 128] (inbP h)).idx i)

theorem ldH_eq {n : ℕ} (X : (⟨3, ![1, n, 1024]⟩ : Shape).Idx → EReal) (h : Fin 8) : ldH X h = headOf X h := by
  funext i
  have h0 : (i 0).val < 1 := (i 0).isLt
  refine congrArg X (funext fun a => Fin.ext ?_)
  fin_cases a
  · show 0 + 1 * (i 0).val = 0
    omega
  · show 0 + 1 * (i 1).val = (i 1).val
    omega
  · show 128 * h.val + 1 * (i 2).val = 128 * h.val + (i 2).val
    omega

theorem ldP_eq (X : S8x1024x128.Idx → EReal) (h : Fin 8) : ldP X h = plane X h := by
  funext i
  have h0 : (i 0).val < 1 := (i 0).isLt
  refine congrArg X (funext fun a => Fin.ext ?_)
  fin_cases a
  · show h.val + 1 * (i 0).val = h.val
    omega
  · show 0 + 1 * (i 1).val = (i 1).val
    omega
  · show 0 + 1 * (i 2).val = (i 2).val
    omega

variable (Q : S1x1024x1024.Idx → EReal) {n : ℕ} (K : (⟨3, ![1, n, 1024]⟩ : Shape).Idx → EReal)
  (vx : (⟨3, ![1, n, 128]⟩ : Shape).Idx → EReal) (M A : S8x1024x128.Idx → EReal)

/-- The maxima after a block of keys. -/
def nMax : S8x1024x128.Idx → EReal := fun y =>
  AttnReal.newMax (fun l => M (ix3 (y 0) (y 1) l)) (score (headOf Q (y 0)) (headOf K (y 0)) vx (y 1)) (y 2)

/-- The sums after a block of keys. -/
def nAcc : S8x1024x128.Idx → EReal := fun y =>
  AttnReal.newAcc (fun l => M (ix3 (y 0) (y 1) l)) (fun l => A (ix3 (y 0) (y 1) l))
    (score (headOf Q (y 0)) (headOf K (y 0)) vx (y 1)) (val (headOf K (y 0))) (y 2)

/-- An index of a block of one plane is that of its row and lane. -/
theorem eta1 {p q : ℕ} (x : (⟨3, ![1, p, q]⟩ : Shape).Idx) : x = ix3 0 (x 1) (x 2) := by
  funext a
  fin_cases a
  · exact Fin.ext (by have h : (x 0).val < 1 := (x 0).isLt; show (x 0).val = 0; omega)
  · rfl
  · rfl

/-- A plane's element is the array's at the index it stands at. -/
theorem at_plane (X : S8x1024x128.Idx → EReal) (h : Fin 8) {w : S1x1024x128.Idx → EReal} (hw : w = plane X h) (x : S1x1024x128.Idx)
    (y : S8x1024x128.Idx) (n : ℕ) (hn : h.val = n) (h0 : (y 0).val = n + (x 0).val) (h1 : (y 1).val = (x 1).val)
    (h2 : (y 2).val = (x 2).val) : w x = X y := by
  have h3 : (x 0).val < 1 := (x 0).isLt
  rw [hw]
  refine congrArg X (funext fun a => Fin.ext ?_)
  fin_cases a
  · show h.val = (y 0).val
    omega
  · exact h1.symm
  · exact h2.symm

section latent
variable (K : S1x2048x1024.Idx → EReal) (vx : S1x2048x128.Idx → EReal) (h : Fin 8) (mp ap : S1x1024x128.Idx → EReal)

theorem lat_max_plane (hm : mp = plane M h) : k0_pay4 (F := Ideal) (k0_pay154 (ldH Q h) (ldH K h) vx) mp = plane (nMax Q K vx M) h := by
  rw [ldH_eq, ldH_eq, hm]
  funext x
  rw [eta1 x]
  exact lat_max _ _ _ _ _ _

theorem lat_acc_plane (hm : mp = plane M h) (ha : ap = plane A h) :
    k0_pay3 (F := Ideal) (k0_pay153 (ldH K h)) (k0_pay154 (ldH Q h) (ldH K h) vx) mp ap = plane (nAcc Q K vx M A) h := by
  rw [ldH_eq, ldH_eq, hm, ha]
  funext x
  rw [eta1 x]
  exact lat_acc _ _ _ _ _ _ _

end latent

section context
variable (K : S1x256x1024.Idx → EReal) (vx : S1x256x128.Idx → EReal) (h : Fin 8) (mp ap : S1x1024x128.Idx → EReal)

theorem ctx_max_plane (hm : mp = plane M h) : k0_pay15 (F := Ideal) (k0_pay13 (ldH Q h) (ldH K h) vx mp) = plane (nMax Q K vx M) h := by
  rw [ldH_eq, ldH_eq, hm]
  funext x
  rw [eta1 x]
  exact ctx_max _ _ _ _ _ _

theorem ctx_acc_plane (hm : mp = plane M h) (ha : ap = plane A h) :
    k0_pay14 (F := Ideal) (k0_pay10 (ldH K h)) (k0_pay11 (ldH Q h) (ldH K h) vx) (k0_pay12 mp) (k0_pay13 (ldH Q h) (ldH K h) vx mp) ap
      = plane (nAcc Q K vx M A) h := by
  rw [ldH_eq, ldH_eq, hm, ha]
  funext x
  rw [eta1 x]
  exact ctx_acc _ _ _ _ _ _ _

end context

/-- Where the last stores cover an index, earlier ones do not matter there. -/
theorem canon_covered {S : Shape} {Val : EltTy → Type} {e : EltTy} [∀ e, Nonempty (Val e)] (L L' : List (View.Piece Val S e)) (y : S.Idx)
    (hc : ∃ p ∈ L, y ∈ p.1.set) : View.canon (L ++ L') y = View.canon L y := by
  induction L with
  | nil => obtain ⟨p, hp, _⟩ := hc; exact absurd hp List.not_mem_nil
  | cons p L ih =>
    by_cases hy : y ∈ p.1.set
    · obtain ⟨x, rfl⟩ := p.1.exists_idx_of_mem hy
      exact (View.canon_cons_emb p.1 p.2 (L ++ L') x).trans (View.canon_cons_emb p.1 p.2 L x).symm
    · obtain ⟨p', hp', hy'⟩ := hc
      rcases List.mem_cons.mp hp' with rfl | hp'
      · exact absurd hy' hy
      · rw [List.cons_append, View.canon_cons_of_not_mem p _ hy, View.canon_cons_of_not_mem p _ hy]
        exact ih ⟨p', hp', hy'⟩

variable (m : (ℓ : Loc nD τ sig) → Buf (Elt Ideal) ℓ)

/-- The sums after a point in the middle. -/
theorem accB (c : Dev nD) (t : Fin cfg0.N) (h0 : ¬ t.val % 4 = 0) (h1 : ¬ t.val % 4 = 3) (p) : (outsAt0 m c t.val t.isLt).2.2
    = nAcc (iblk m c 0 t) (iblk m c 3 t) (iblk m c 4 t) (outsAt0 m c (t.val - 1) p).2.1 (outsAt0 m c (t.val - 1) p).2.2 := by
  rw [outsAt0_B m c t h0 h1]
  dsimp only
  frame_out
  simp only [read_unread_whole]
  generalize (outsAt0 m c (t.val - 1) _).2.1 = M
  generalize (outsAt0 m c (t.val - 1) _).2.2 = A
  have key := fun h => lat_acc_plane (iblk m c 0 t) M A (iblk m c 3 t) (iblk m c 4 t) h _ _ (ldP_eq M h) (ldP_eq A h)
  funext y
  canon_tiles x h
  · exact at_plane _ 7 (key 7) x y 7 rfl h0 h1 h2
  · exact at_plane _ 6 (key 6) x y 6 rfl h0 h1 h2
  · exact at_plane _ 5 (key 5) x y 5 rfl h0 h1 h2
  · exact at_plane _ 4 (key 4) x y 4 rfl h0 h1 h2
  · exact at_plane _ 3 (key 3) x y 3 rfl h0 h1 h2
  · exact at_plane _ 2 (key 2) x y 2 rfl h0 h1 h2
  · exact at_plane _ 1 (key 1) x y 1 rfl h0 h1 h2
  · exact at_plane _ 0 (key 0) x y 0 rfl (by omega) h1 h2

/-- The maxima after a point in the middle. -/
theorem maxB (c : Dev nD) (t : Fin cfg0.N) (h0 : ¬ t.val % 4 = 0) (h1 : ¬ t.val % 4 = 3) (p) : (outsAt0 m c t.val t.isLt).2.1
    = nMax (iblk m c 0 t) (iblk m c 3 t) (iblk m c 4 t) (outsAt0 m c (t.val - 1) p).2.1 := by
  rw [outsAt0_B m c t h0 h1]
  dsimp only
  frame_out
  simp only [read_unread_whole]
  generalize (outsAt0 m c (t.val - 1) _).2.1 = M
  have key := fun h => lat_max_plane (iblk m c 0 t) M (iblk m c 3 t) (iblk m c 4 t) h _ (ldP_eq M h)
  funext y
  canon_tiles x h
  · exact at_plane _ 7 (key 7) x y 7 rfl h0 h1 h2
  · exact at_plane _ 6 (key 6) x y 6 rfl h0 h1 h2
  · exact at_plane _ 5 (key 5) x y 5 rfl h0 h1 h2
  · exact at_plane _ 4 (key 4) x y 4 rfl h0 h1 h2
  · exact at_plane _ 3 (key 3) x y 3 rfl h0 h1 h2
  · exact at_plane _ 2 (key 2) x y 2 rfl h0 h1 h2
  · exact at_plane _ 1 (key 1) x y 1 rfl h0 h1 h2
  · exact at_plane _ 0 (key 0) x y 0 rfl (by omega) h1 h2

/-- The maxima after a first point. -/
theorem maxA (c : Dev nD) (t : Fin cfg0.N) (h0 : t.val % 4 = 0) (h1 : ¬ t.val % 4 = 3) : (outsAt0 m c t.val t.isLt).2.1
    = nMax (iblk m c 0 t) (iblk m c 3 t) (iblk m c 4 t) (nMax (iblk m c 0 t) (iblk m c 1 t) (iblk m c 2 t) (k0_pay6 (F := Ideal))) := by
  rw [outsAt0_A m c t h0 h1]
  dsimp only
  frame_open
  simp (disch := decide) only [↓ View.readCov_skip, ↓ View.readCov_cons_toLoadRect, ↓ View.readCov_fill]
  frame_out
  have key := fun h => lat_max_plane (iblk m c 0 t) (nMax (iblk m c 0 t) (iblk m c 1 t) (iblk m c 2 t) (k0_pay6 (F := Ideal)))
    (iblk m c 3 t) (iblk m c 4 t) h _ (ctx_max_plane (iblk m c 0 t) (k0_pay6 (F := Ideal)) (iblk m c 1 t) (iblk m c 2 t) h _ (ldP_eq _ h))
  funext y
  refine (canon_covered [_, _, _, _, _, _, _, _] [_, _, _, _, _, _, _, _, _] y (View.cover_of_tiled_head _ _ _ (by rfl) _)).trans ?_
  canon_tiles x h
  · exact at_plane _ 7 (key 7) x y 7 rfl h0 h1 h2
  · exact at_plane _ 6 (key 6) x y 6 rfl h0 h1 h2
  · exact at_plane _ 5 (key 5) x y 5 rfl h0 h1 h2
  · exact at_plane _ 4 (key 4) x y 4 rfl h0 h1 h2
  · exact at_plane _ 3 (key 3) x y 3 rfl h0 h1 h2
  · exact at_plane _ 2 (key 2) x y 2 rfl h0 h1 h2
  · exact at_plane _ 1 (key 1) x y 1 rfl h0 h1 h2
  · exact at_plane _ 0 (key 0) x y 0 rfl (by omega) h1 h2

/-- The quotients a last point writes: the value lanes of a head's sums over its count. -/
def quots (A : S8x1024x128.Idx → EReal) : S1x1024x512.Idx → EReal := fun y =>
  Ideal.div (A (ix3 ⟨(y 2).val / 64, by have h : (y 2).val < 512 := (y 2).isLt; omega⟩ (y 1) ⟨64 + (y 2).val % 64, by omega⟩))
    (A (ix3 ⟨(y 2).val / 64, by have h : (y 2).val < 512 := (y 2).isLt; omega⟩ (y 1) 0))

/-- A head's piece of the result stands at the head's columns. -/
theorem at_quots (A : S8x1024x128.Idx → EReal) (h : Fin 8) {w : S1x1024x128.Idx → EReal} (hw : w = plane A h) (x : S1x1024x64.Idx)
    (y : S1x1024x512.Idx) (n : ℕ) (hn : 64 * h.val = n) (h1 : (y 1).val = (x 1).val) (h2 : (y 2).val = n + (x 2).val) :
    k0_pay5 (F := Ideal) w x = quots A y := by
  have h3 : (x 2).val < 64 := (x 2).isLt
  have e : h = ⟨(y 2).val / 64, by have h : (y 2).val < 512 := (y 2).isLt; omega⟩ := Fin.ext (by dsimp only; omega)
  have e1 : x 1 = y 1 := Fin.ext h1.symm
  have e2 : (y 2).val % 64 = (x 2).val := by omega
  rw [eta1 x, hw]
  refine (out_at _ _ _).trans ?_
  unfold quots plane
  simp only [e2, ← e, ← e1]
  rfl

/-- The result's block after a last point. -/
theorem outC (c : Dev nD) (t : Fin cfg0.N) (h0 : ¬ t.val % 4 = 0) (h1 : t.val % 4 = 3) (p) : (outsAt0 m c t.val t.isLt).1
    = quots (nAcc (iblk m c 0 t) (iblk m c 3 t) (iblk m c 4 t) (outsAt0 m c (t.val - 1) p).2.1 (outsAt0 m c (t.val - 1) p).2.2) := by
  rw [outsAt0_C m c t h0 h1]
  dsimp only
  frame_open
  simp (disch := decide) only [↓ View.readCov_skip, ↓ View.readCov_cons_toLoadRect, ↓ View.readCov_fill]
  frame_out
  simp only [read_unread_whole]
  generalize (outsAt0 m c (t.val - 1) _).2.1 = M
  generalize (outsAt0 m c (t.val - 1) _).2.2 = A
  have key := fun h => lat_acc_plane (iblk m c 0 t) M A (iblk m c 3 t) (iblk m c 4 t) h _ _ (ldP_eq M h) (ldP_eq A h)
  funext y
  canon_tiles x h
  · exact at_quots _ 7 (key 7) x y 448 rfl h1 h2
  · exact at_quots _ 6 (key 6) x y 384 rfl h1 h2
  · exact at_quots _ 5 (key 5) x y 320 rfl h1 h2
  · exact at_quots _ 4 (key 4) x y 256 rfl h1 h2
  · exact at_quots _ 3 (key 3) x y 192 rfl h1 h2
  · exact at_quots _ 2 (key 2) x y 128 rfl h1 h2
  · exact at_quots _ 1 (key 1) x y 64 rfl h1 h2
  · exact at_quots _ 0 (key 0) x y 0 rfl h1 (by omega)

end Cert.Flash
-- ==== Proof.FlashFirst.lean ====
module

public import proofs.«01_k».proof.Proof.FlashBody

/-! The sums a first point leaves: the context keys, then the first latent ones. -/

@[expose] public section

set_option maxRecDepth 16384

noncomputable section

namespace Cert.Flash

open Idealize.ShloMosaic Idealize.ShloMosaic.TcCoe Idealize.SL.Sem
open Cert.KernelIdeal Cert.KernelIdeal.Gen

variable (m : (ℓ : Loc nD τ sig) → Buf (Elt Ideal) ℓ)

/-- Two copies of a tile side by side, as a function of the tile alone. -/
def cat2 (w : FVec Ideal S1024x128 .f32) : FVec Ideal S1024x256 .f32 :=
  concatenate S1024x256 1 [⟨S1024x128, w⟩, ⟨S1024x128, w⟩] concatenates_S1024x128_S1024x128_S1024x256_d1

theorem cat2_eq (w : FVec Ideal S1024x128 .f32) (h) : concatenate S1024x256 1 [⟨S1024x128, w⟩, ⟨S1024x128, w⟩] h = cat2 w := rfl

/-- The sums after a first point. -/
theorem accA (c : Dev nD) (t : Fin cfg0.N) (h0 : t.val % 4 = 0) (h1 : ¬ t.val % 4 = 3) : (outsAt0 m c t.val t.isLt).2.2
    = nAcc (iblk m c 0 t) (iblk m c 3 t) (iblk m c 4 t) (nMax (iblk m c 0 t) (iblk m c 1 t) (iblk m c 2 t) (k0_pay6 (F := Ideal)))
        (nAcc (iblk m c 0 t) (iblk m c 1 t) (iblk m c 2 t) (k0_pay6 (F := Ideal)) (k0_pay7 (F := Ideal))) := by
  rw [outsAt0_A m c t h0 h1]
  dsimp only
  frame_open
  simp (disch := decide) only [cat2_eq, ↓ View.readCov_skip, ↓ View.readCov_cons_toLoadRect, ↓ View.readCov_fill]
  frame_out
  have key := fun h => lat_acc_plane (iblk m c 0 t) (nMax (iblk m c 0 t) (iblk m c 1 t) (iblk m c 2 t) (k0_pay6 (F := Ideal)))
    (nAcc (iblk m c 0 t) (iblk m c 1 t) (iblk m c 2 t) (k0_pay6 (F := Ideal)) (k0_pay7 (F := Ideal)))
    (iblk m c 3 t) (iblk m c 4 t) h _ _
    (ctx_max_plane (iblk m c 0 t) (k0_pay6 (F := Ideal)) (iblk m c 1 t) (iblk m c 2 t) h _ (ldP_eq _ h))
    (ctx_acc_plane (iblk m c 0 t) (k0_pay6 (F := Ideal)) (k0_pay7 (F := Ideal)) (iblk m c 1 t) (iblk m c 2 t) h _ _ (ldP_eq _ h) (ldP_eq _ h))
  funext y
  refine (canon_covered [_, _, _, _, _, _, _, _] [_, _, _, _, _, _, _, _, _] y (View.cover_of_tiled_head _ _ _ (by rfl) _)).trans ?_
  canon_tiles x h
  · exact at_plane _ 7 (key 7) x y 7 rfl h0 h1 h2
  · exact at_plane _ 6 (key 6) x y 6 rfl h0 h1 h2
  · exact at_plane _ 5 (key 5) x y 5 rfl h0 h1 h2
  · exact at_plane _ 4 (key 4) x y 4 rfl h0 h1 h2
  · exact at_plane _ 3 (key 3) x y 3 rfl h0 h1 h2
  · exact at_plane _ 2 (key 2) x y 2 rfl h0 h1 h2
  · exact at_plane _ 1 (key 1) x y 1 rfl h0 h1 h2
  · exact at_plane _ 0 (key 0) x y 0 rfl (by omega) h1 h2

end Cert.Flash
-- ==== Proof.FlashRun.lean ====
module

public import proofs.«01_k».proof.Proof.FlashFirst

/-! The whole run of the attention: every row's quotient is a sum over all keys over their count. -/

@[expose] public section

set_option maxRecDepth 16384

noncomputable section

namespace Cert.Flash

open Idealize.ShloMosaic Idealize.ShloMosaic.TcCoe Idealize.SL.Sem
open Cert.KernelIdeal Cert.KernelIdeal.Gen

/-- An element that is a real number. -/
def Rl (x : EReal) : Prop := ((x.toReal : ℝ) : EReal) = x

theorem Rl.coe (x : ℝ) : Rl (x : EReal) := by rw [Rl, EReal.toReal_coe]

theorem Rl.mul {x y : EReal} (hx : Rl x) (hy : Rl y) : Rl (x * y) := by
  rw [← hx, ← hy, ← EReal.coe_mul]
  exact Rl.coe _

theorem Rl.sum {n : ℕ} {f : Fin n → EReal} (h : ∀ k, Rl (f k)) : Rl (∑ k, f k) := by
  rw [show f = fun k => (((f k).toReal : ℝ) : EReal) from funext fun k => (h k).symm, AttnReal.sum_coe]
  exact Rl.coe _

theorem Rl.ite {p : Prop} [Decidable p] {x y : EReal} (hx : Rl x) (hy : Rl y) : Rl (if p then x else y) := by
  split_ifs
  · exact hx
  · exact hy

theorem score_real {n : ℕ} {q : (⟨3, ![1, 1024, 128]⟩ : Shape).Idx → EReal} {kv vx : (⟨3, ![1, n, 128]⟩ : Shape).Idx → EReal}
    (hq : ∀ i, Rl (q i)) (hk : ∀ i, Rl (kv i)) (hx : ∀ i, Rl (vx i)) (r : Fin 1024) (k : Fin n) : Rl (score q kv vx r k) :=
  Rl.sum fun d => (hq _).mul ((hk _).ite (hx _))

theorem val_real {n : ℕ} {kv : (⟨3, ![1, n, 128]⟩ : Shape).Idx → EReal} (hk : ∀ i, Rl (kv i)) (k : Fin n) (l : Fin 128) :
    Rl (val kv k l) :=
  Rl.ite (Rl.ite (by exact_mod_cast Rl.coe 1) (by exact_mod_cast Rl.coe 0)) (hk _)

/-- What a block of keys adds to a row's sums, in base two. -/
def W {n : ℕ} (Q : S1x1024x1024.Idx → EReal) (K : (⟨3, ![1, n, 1024]⟩ : Shape).Idx → EReal)
    (vx : (⟨3, ![1, n, 128]⟩ : Shape).Idx → EReal) (h : Fin 8) (r : Fin 1024) (l : Fin 128) : ℝ :=
  ∑ k : Fin n, (2 : ℝ) ^ (score (headOf Q h) (headOf K h) vx r k).toReal * (val (headOf K h) k l).toReal

section blocks
variable {n : ℕ} (hn : 0 < n) (Q : S1x1024x1024.Idx → EReal) (K : (⟨3, ![1, n, 1024]⟩ : Shape).Idx → EReal)
  (vx : (⟨3, ![1, n, 128]⟩ : Shape).Idx → EReal) (hq : ∀ i, Rl (Q i)) (hk : ∀ i, Rl (K i)) (hx : ∀ i, Rl (vx i))
  (M A : S8x1024x128.Idx → EReal) (h : Fin 8) (r : Fin 1024)
include hn hq hk hx

theorem scores_eq : score (headOf Q h) (headOf K h) vx r
    = fun k => (((score (headOf Q h) (headOf K h) vx r k).toReal : ℝ) : EReal) :=
  funext fun k => (score_real (fun i => hq _) (fun i => hk _) hx r k).symm

theorem vals_eq : val (headOf K h) = fun k l => (((val (headOf K h) k l).toReal : ℝ) : EReal) :=
  funext fun k => funext fun l => (val_real (fun i => hk _) k l).symm

/-- One more block of keys. -/
theorem W_step (N : Fin 128 → ℝ) (hN : AttnReal.Holds (fun l => M (ix3 h r l)) (fun l => A (ix3 h r l)) N) :
    AttnReal.Holds (fun l => nMax Q K vx M (ix3 h r l)) (fun l => nAcc Q K vx M A (ix3 h r l)) fun l => N l + W Q K vx h r l := by
  show AttnReal.Holds (AttnReal.newMax (fun l => M (ix3 h r l)) (score (headOf Q h) (headOf K h) vx r))
    (AttnReal.newAcc (fun l => M (ix3 h r l)) (fun l => A (ix3 h r l)) (score (headOf Q h) (headOf K h) vx r) (val (headOf K h))) _
  rw [scores_eq hn Q K vx hq hk hx h r, vals_eq hn Q K vx hq hk hx h]
  exact AttnReal.step hn _ _ N hN _ _

/-- The first block of keys. -/
theorem W_first (hM : ∀ i, M i = ⊥) (hA : ∀ i, A i = 0) :
    AttnReal.Holds (fun l => nMax Q K vx M (ix3 h r l)) (fun l => nAcc Q K vx M A (ix3 h r l)) fun l => W Q K vx h r l := by
  show AttnReal.Holds (AttnReal.newMax (fun l => M (ix3 h r l)) (score (headOf Q h) (headOf K h) vx r))
    (AttnReal.newAcc (fun l => M (ix3 h r l)) (fun l => A (ix3 h r l)) (score (headOf Q h) (headOf K h) vx r) (val (headOf K h))) _
  rw [scores_eq hn Q K vx hq hk hx h r, vals_eq hn Q K vx hq hk hx h]
  exact AttnReal.first hn _ _ (fun l => hM _) (fun l => hA _) _ _

end blocks

/-- The fill of the maxima. -/
theorem fill_max (i) : k0_pay6 (F := Ideal) i = ⊥ := by
  pointwise [k0_pay6]
  rfl

/-- The fill of the sums. -/
theorem fill_acc (i) : k0_pay7 (F := Ideal) i = 0 := by
  pointwise [k0_pay7]

variable (m : (ℓ : Loc nD τ sig) → Buf (Elt Ideal) ℓ)

/-- Every argument's elements are real numbers. -/
def Reals (c : Dev nD) : Prop :=
  (∀ i, Rl (m ((c : Thread nD τ).loc main_arg0) i)) ∧ (∀ i, Rl (m ((c : Thread nD τ).loc main_arg1) i))
    ∧ (∀ i, Rl (m ((c : Thread nD τ).loc main_arg2) i)) ∧ (∀ i, Rl (m ((c : Thread nD τ).loc main_arg3) i))
    ∧ (∀ i, Rl (m ((c : Thread nD τ).loc main_arg4) i))

variable (c : Dev nD) (hr : Reals m c)

/-- What the context keys add at a point. -/
abbrev Wc (t : Fin cfg0.N) := W (iblk m c 0 t) (iblk m c 1 t) (iblk m c 2 t)
/-- What a point's latent keys add. -/
abbrev Wl (t : Fin cfg0.N) := W (iblk m c 0 t) (iblk m c 3 t) (iblk m c 4 t)

/-- What a row knows after a point. -/
def At (t : Fin cfg0.N) (N : Fin 8 → Fin 1024 → Fin 128 → ℝ) : Prop := ∀ h r,
  AttnReal.Holds (fun l => (outsAt0 m c t.val t.isLt).2.1 (ix3 h r l)) (fun l => (outsAt0 m c t.val t.isLt).2.2 (ix3 h r l)) (N h r)

include hr

theorem at_first (t : Fin cfg0.N) (h0 : t.val % 4 = 0) : At m c t fun h r l => Wc m c t h r l + Wl m c t h r l := by
  intro h r
  rw [maxA m c t h0 (by omega), accA m c t h0 (by omega)]
  exact W_step (by decide) _ _ _ (fun i => hr.1 _) (fun i => hr.2.2.2.1 _) (fun i => hr.2.2.2.2 _) _ _ h r _
    (W_first (by decide) _ _ _ (fun i => hr.1 _) (fun i => hr.2.1 _) (fun i => hr.2.2.1 _) _ _ h r fill_max fill_acc)

theorem at_next (t t' : Fin cfg0.N) (h0 : ¬ t.val % 4 = 0) (h1 : ¬ t.val % 4 = 3) (ht : t'.val = t.val - 1)
    (N : Fin 8 → Fin 1024 → Fin 128 → ℝ) (hN : At m c t' N) : At m c t fun h r l => N h r l + Wl m c t h r l := by
  intro h r
  obtain ⟨t', ht'⟩ := t'
  obtain rfl : t' = t.val - 1 := ht
  rw [maxB m c t h0 h1 ht', accB m c t h0 h1 ht']
  exact W_step (by decide) _ _ _ (fun i => hr.1 _) (fun i => hr.2.2.2.1 _) (fun i => hr.2.2.2.2 _) _ _ h r _ (hN h r)

theorem out_last (t t' : Fin cfg0.N) (h1 : t.val % 4 = 3) (ht : t'.val = t.val - 1)
    (N : Fin 8 → Fin 1024 → Fin 128 → ℝ) (hN : At m c t' N) (y : S1x1024x512.Idx) (h : Fin 8) (d : Fin 64)
    (hy : (y 2).val = 64 * h.val + d.val) (hp : N h (y 1) 0 + Wl m c t h (y 1) 0 ≠ 0) :
    (outsAt0 m c t.val t.isLt).1 y = (((N h (y 1) ⟨64 + d.val, by omega⟩ + Wl m c t h (y 1) ⟨64 + d.val, by omega⟩)
      / (N h (y 1) 0 + Wl m c t h (y 1) 0) : ℝ) : EReal) := by
  obtain ⟨t', ht'⟩ := t'
  obtain rfl : t' = t.val - 1 := ht
  rw [outC m c t (by omega) h1 ht']
  have e : h = ⟨(y 2).val / 64, by have h : (y 2).val < 512 := (y 2).isLt; omega⟩ := Fin.ext (by dsimp only; omega)
  have e2 : (y 2).val % 64 = d.val := by omega
  unfold quots
  simp only [e2, ← e]
  exact AttnReal.quot _ _ _ (W_step (by decide) _ _ _ (fun i => hr.1 _) (fun i => hr.2.2.2.1 _) (fun i => hr.2.2.2.2 _) _ _ h (y 1) _
    (hN h (y 1))) _ hp

end Cert.Flash
-- ==== Proof.Finite.lean ====
module

public import proofs.«01_k».proof.Proof.FlashRun
public import proofs.«01_k».proof.Defs
public import Idealize.ShloMosaic.Lib.ReduceAll

/-! The precondition: what it says of every element, and the shape facts it is stated with. -/

@[expose] public section

set_option maxRecDepth 16384

noncomputable section

namespace Cert.Flash

open Idealize.ShloMosaic Idealize.ShloMosaic.TcCoe Idealize.SL.Sem

/-- The shape relations of the precondition. -/
theorem pre_facts : Cert.Pre_finite.Facts where
  bitsLt_bf16_f32 := by decide
  bcast_S_S4x8192x1024 := by decide
  reducesTo_S4x8192x1024_S_d0_1_2 := by decide
  h_S_ := by decide
  bcast_S_S4x256x1024 := by decide
  reducesTo_S4x256x1024_S_d0_1_2 := by decide
  bcast_S_S4x256x128 := by decide
  reducesTo_S4x256x128_S_d0_1_2 := by decide
  bcast_S_S4x8192x128 := by decide
  reducesTo_S4x8192x128_S_d0_1_2 := by decide

/-- An element whose absolute value is under infinity is real. -/
theorem rl_of_lt {x : EReal}
    (h : FloatOps.cmpf (F := Ideal) (φ := .f32) .olt (FloatOps.hostAbsf (F := Ideal) (φ := .f32) x) (Ideal.ofBits .f32 0x7F800000#32) = 1#1) : Rl x := by
  have top : Ideal.ofBits .f32 0x7F800000#32 = ⊤ := by simp [Ideal.ofBits, Ideal.ieee]
  rw [top] at h
  have h' : max x (-x) < ⊤ := by
    by_contra hn
    have : BitVec.ofBool (decide (max x (-x) < (⊤ : EReal))) = 1#1 := h
    rw [decide_eq_false hn] at this
    exact absurd this (by decide)
  induction x using EReal.rec with
  | bot => simp at h'
  | coe r => exact Rl.coe r
  | top => simp at h'

/-- One `all(|a| < inf)` of the precondition: every element is real. -/
theorem rl_of_all {s : Shape} (a : FVec Ideal s .bf16) {axes : List (Fin s.rank)} {ds : Fin 0 → Fin s.rank}
    (hl : FTy.bits .bf16 < FTy.bits .f32) (hb : Cert.Pre_finite.S_.BroadcastsInDim s ds)
    (hr : s.ReducesTo axes Cert.Pre_finite.S_) (hu : 0 < Cert.Pre_finite.S_.numel) (j : Cert.Pre_finite.S_.Idx)
    (e : Host.reduce IntOp.andi (cmpf .olt (Host.absf (extf .f32 a hl)) (broadcastInDim s ds hb (constant Cert.Pre_finite.S_ .f32 0x7F800000#32)))
      (constantI Cert.Pre_finite.S_ 1 1#1) hr hu j = 1#1) (i : s.Idx) : Rl (a i) :=
  rl_of_lt (Host.reduce_andi_all _ _ _ _ j e i)

theorem reals_of_pre (m : (ℓ : Loc Cert.KernelIdeal.nD Cert.KernelIdeal.τ Cert.KernelIdeal.sig) → Buf (Elt Ideal) ℓ)
    (h : Cert.Pre_KernelIdeal_finite (hPre_finite := pre_facts) m) (c : Dev Cert.KernelIdeal.nD) : Reals m c := by
  have e := congrFun (h c) (fun a => Fin.elim0 a)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨rl_of_all _ _ _ _ _ _ e0, rl_of_all _ _ _ _ _ _ e1, rl_of_all _ _ _ _ _ _ e2, rl_of_all _ _ _ _ _ _ e3, rl_of_all _ _ _ _ _ _ e4⟩

end Cert.Flash
-- ==== Proof.FlashFinal.lean ====
module

public import proofs.«01_k».proof.Proof.FlashRun

/-! The result of the attention's run: at every row and head, the values averaged over all 8448 keys. -/

@[expose] public section

set_option maxRecDepth 16384

noncomputable section

namespace Cert.Flash

open Idealize.ShloMosaic Idealize.ShloMosaic.TcCoe Idealize.SL.Sem
open Cert.KernelIdeal Cert.KernelIdeal.Gen

variable (m : (ℓ : Loc nD τ sig) → Buf (Elt Ideal) ℓ)

/-- Every window's block index at point `t`. -/
theorem idx : ∀ t : Fin cfg0.N, t.val < 128 ∧ win0_0.index t = ![t.val / 32, t.val / 4 % 8, 0] ∧ win0_1.index t = ![t.val / 32, 0, 0]
    ∧ win0_2.index t = ![t.val / 32, 0, 0] ∧ win0_3.index t = ![t.val / 32, t.val % 4, 0]
    ∧ win0_4.index t = ![t.val / 32, t.val % 4, 0] ∧ win0_5.index t = ![t.val / 32, t.val / 4 % 8, 0] :=
  (by decide +kernel : ∀ t : Fin grid0.N, _)

/-- Two arrays of keys, the first of 256, one after the other. -/
def keys {w : ℕ} (a : (⟨3, ![4, 256, w]⟩ : Shape).Idx → EReal) (b : (⟨3, ![4, 8192, w]⟩ : Shape).Idx → EReal) (g : Fin 4) (T : Fin 8448)
    (l : Fin w) : EReal :=
  if h : T.val < 256 then a (ix3 g ⟨T.val, h⟩ l) else b (ix3 g ⟨T.val - 256, by omega⟩ l)

/-- A column of head `h`. -/
abbrev col (h : Fin 8) (d : Fin 128) : Fin 1024 := ⟨128 * h.val + d.val, by omega⟩

section all
variable (q : S4x8192x1024.Idx → EReal) (kc : S4x256x1024.Idx → EReal) (vc : S4x256x128.Idx → EReal) (k : S4x8192x1024.Idx → EReal)
  (v : S4x8192x128.Idx → EReal) (g : Fin 4) (R : Fin 8192) (h : Fin 8)

/-- The score of key `T` for row `R` and head `h`. -/
def gScore (T : Fin 8448) : EReal :=
  ∑ d : Fin 128, q (ix3 g R (col h d)) * if d.val < 64 then keys kc k g T (col h d) else keys vc v g T d

/-- What key `T` adds to a lane. -/
def gVal (T : Fin 8448) (l : Fin 128) : EReal :=
  if l.val < 64 then (if l.val = 0 then 1 else 0) else keys kc k g T (col h l)

/-- One key's weighted addition. -/
def gTerm (l : Fin 128) (T : Fin 8448) : ℝ := (2 : ℝ) ^ (gScore q kc vc k v g R h T).toReal * (gVal kc k g h T l).toReal

/-- The attention: value lane over count. -/
def gOut (l : Fin 128) : ℝ := (∑ T, gTerm q kc vc k v g R h l T) / ∑ T, gTerm q kc vc k v g R h 0 T

end all

/-- The keys' sum, block by block. -/
theorem sum_keys (f : Fin 8448 → ℝ) : ∑ T, f T = (∑ k : Fin 256, f ⟨k.val, by omega⟩) + (∑ k : Fin 2048, f ⟨256 + 2048 * 0 + k.val, by omega⟩)
    + (∑ k : Fin 2048, f ⟨256 + 2048 * 1 + k.val, by omega⟩) + (∑ k : Fin 2048, f ⟨256 + 2048 * 2 + k.val, by omega⟩)
    + (∑ k : Fin 2048, f ⟨256 + 2048 * 3 + k.val, by omega⟩) := by
  rw [show (∑ T, f T) = ∑ T : Fin (256 + 2048 + 2048 + 2048 + 2048), f T from rfl, Fin.sum_univ_add, Fin.sum_univ_add, Fin.sum_univ_add,
    Fin.sum_univ_add]
  rfl

variable (c : Dev nD)

/-- The batch row of a point. -/
abbrev gOf (t : Fin cfg0.N) : Fin 4 := ⟨t.val / 32, by have := (idx t).1; omega⟩
/-- The row of the array at row `r` of a point's block. -/
abbrev rowOf (t : Fin cfg0.N) (r : Fin 1024) : Fin 8192 := ⟨1024 * (t.val / 4 % 8) + r.val, by omega⟩

theorem blk_q (t : Fin cfg0.N) (r : Fin 1024) (x : Fin 1024) :
    iblk m c 0 t (ix3 0 r x) = m ((c : Thread nD τ).loc main_arg0) (ix3 (gOf t) (rowOf t r) x) := by
  blk_point [iblk, V, idx t]

theorem blk_kc (t : Fin cfg0.N) (r : Fin 256) (x : Fin 1024) :
    iblk m c 1 t (ix3 0 r x) = m ((c : Thread nD τ).loc main_arg1) (ix3 (gOf t) r x) := by
  blk_point [iblk, V, idx t]

theorem blk_vc (t : Fin cfg0.N) (r : Fin 256) (x : Fin 128) :
    iblk m c 2 t (ix3 0 r x) = m ((c : Thread nD τ).loc main_arg2) (ix3 (gOf t) r x) := by
  blk_point [iblk, V, idx t]

theorem blk_k (t : Fin cfg0.N) (r : Fin 2048) (x : Fin 1024) :
    iblk m c 3 t (ix3 0 r x) = m ((c : Thread nD τ).loc main_arg3) (ix3 (gOf t) ⟨2048 * (t.val % 4) + r.val, by omega⟩ x) := by
  blk_point [iblk, V, idx t]

theorem blk_v (t : Fin cfg0.N) (r : Fin 2048) (x : Fin 128) :
    iblk m c 4 t (ix3 0 r x) = m ((c : Thread nD τ).loc main_arg4) (ix3 (gOf t) ⟨2048 * (t.val % 4) + r.val, by omega⟩ x) := by
  blk_point [iblk, V, idx t]

/-- One key's addition, over the arguments. -/
abbrev gT (g : Fin 4) (R : Fin 8192) (h : Fin 8) (l : Fin 128) (T : Fin 8448) : ℝ :=
  gTerm (m ((c : Thread nD τ).loc main_arg0)) (m ((c : Thread nD τ).loc main_arg1)) (m ((c : Thread nD τ).loc main_arg2))
    (m ((c : Thread nD τ).loc main_arg3)) (m ((c : Thread nD τ).loc main_arg4)) g R h l T

theorem Wc_eq (t : Fin cfg0.N) (h : Fin 8) (r : Fin 1024) (l : Fin 128) :
    Wc m c t h r l = ∑ k : Fin 256, gT m c (gOf t) (rowOf t r) h l ⟨k.val, by omega⟩ := by
  refine Finset.sum_congr rfl fun k _ => ?_
  have e : ∀ {w : ℕ} (a : (⟨3, ![4, 256, w]⟩ : Shape).Idx → EReal) b g x, keys a b g ⟨k.val, by omega⟩ x = a (ix3 g k x) := fun a b g x => by
    rw [keys, dif_pos k.isLt]
  unfold gT gTerm gScore gVal score val
  simp only [e, headOf]
  have hq : ∀ d : Fin 128, iblk m c 0 t (ix3 0 r (col h d)) = _ := fun d => blk_q m c t r (col h d)
  have hk : ∀ d : Fin 128, iblk m c 1 t (ix3 0 k (col h d)) = _ := fun d => blk_kc m c t k (col h d)
  have hv : ∀ d : Fin 128, iblk m c 2 t (ix3 0 k d) = _ := fun d => blk_vc m c t k d
  simp only [← hq, ← hk, ← hv]
  rfl

theorem Wl_eq (t : Fin cfg0.N) (h : Fin 8) (r : Fin 1024) (l : Fin 128) (j : ℕ) (hj : t.val % 4 = j) (hj4 : j < 4) :
    Wl m c t h r l = ∑ k : Fin 2048, gT m c (gOf t) (rowOf t r) h l ⟨256 + 2048 * j + k.val, by omega⟩ := by
  subst hj
  refine Finset.sum_congr rfl fun k _ => ?_
  have e : ∀ {w : ℕ} (a : (⟨3, ![4, 256, w]⟩ : Shape).Idx → EReal) b g x, keys a b g ⟨256 + 2048 * (t.val % 4) + k.val, by omega⟩ x
      = b (ix3 g ⟨2048 * (t.val % 4) + k.val, by omega⟩ x) := fun a b g x => by
    rw [keys, dif_neg (by dsimp only; omega)]
    congr 2
    exact Fin.ext (by dsimp only; omega)
  unfold gT gTerm gScore gVal score val
  simp only [e, headOf]
  have hq : ∀ d : Fin 128, iblk m c 0 t (ix3 0 r (col h d)) = _ := fun d => blk_q m c t r (col h d)
  have hk : ∀ d : Fin 128, iblk m c 3 t (ix3 0 k (col h d)) = _ := fun d => blk_k m c t k (col h d)
  have hv : ∀ d : Fin 128, iblk m c 4 t (ix3 0 k d) = _ := fun d => blk_v m c t k d
  simp only [← hq, ← hk, ← hv]
  rfl

/-- The count is positive. -/
theorem count_pos (g : Fin 4) (R : Fin 8192) (h : Fin 8) : 0 < ∑ T, gT m c g R h 0 T := by
  refine Finset.sum_pos (fun T _ => ?_) ⟨⟨0, by decide⟩, Finset.mem_univ _⟩
  show 0 < (2 : ℝ) ^ _ * (gVal _ _ g h T 0).toReal
  have e : gVal (m ((c : Thread nD τ).loc main_arg1)) (m ((c : Thread nD τ).loc main_arg3)) g h T 0 = 1 := by
    rw [gVal, if_pos (by decide), if_pos (by decide)]
  rw [e, EReal.toReal_one, mul_one]
  exact Real.rpow_pos_of_pos two_pos _

/-- The attention's result, as a function of the result's index. -/
def gRes : S4x8192x512.Idx → EReal := fun y =>
  ((gOut (m ((c : Thread nD τ).loc main_arg0)) (m ((c : Thread nD τ).loc main_arg1)) (m ((c : Thread nD τ).loc main_arg2))
    (m ((c : Thread nD τ).loc main_arg3)) (m ((c : Thread nD τ).loc main_arg4)) (y 0) (y 1)
    ⟨(y 2).val / 64, by have h : (y 2).val < 512 := (y 2).isLt; omega⟩ ⟨64 + (y 2).val % 64, by omega⟩ : ℝ) : EReal)

/-- The block that a last point writes. -/
theorem out_block (hr : Reals m c) (t : Fin cfg0.N) (h3 : t.val % 4 = 3) (y : S1x1024x512.Idx) (h : Fin 8) (d : Fin 64)
    (hy : (y 2).val = 64 * h.val + d.val) : (outsAt0 m c t.val t.isLt).1 y
      = (((∑ T, gT m c (gOf t) (rowOf t (y 1)) h ⟨64 + d.val, by omega⟩ T) / ∑ T, gT m c (gOf t) (rowOf t (y 1)) h 0 T : ℝ) : EReal) := by
  have hN : t.val < cfg0.N := t.isLt
  let t1 : Fin cfg0.N := ⟨t.val - 1, by omega⟩
  let t2 : Fin cfg0.N := ⟨t.val - 2, by omega⟩
  let t3 : Fin cfg0.N := ⟨t.val - 3, by omega⟩
  have a3 := at_first m c hr t3 (by show (t.val - 3) % 4 = 0; omega)
  have a2 := at_next m c hr t2 t3 (by show ¬ (t.val - 2) % 4 = 0; omega) (by show ¬ (t.val - 2) % 4 = 3; omega) (by show t.val - 3 = t.val - 2 - 1; omega) _ a3
  have a1 := at_next m c hr t1 t2 (by show ¬ (t.val - 1) % 4 = 0; omega) (by show ¬ (t.val - 1) % 4 = 3; omega) (by show t.val - 2 = t.val - 1 - 1; omega) _ a2
  have key : ∀ (r : Fin 1024) l, Wc m c t3 h r l + Wl m c t3 h r l + Wl m c t2 h r l + Wl m c t1 h r l + Wl m c t h r l
      = ∑ T, gT m c (gOf t) (rowOf t r) h l T := by
    intro r l
    rw [sum_keys, Wc_eq, Wl_eq m c t3 h r l 0 (by show (t.val - 3) % 4 = 0; omega) (by omega),
      Wl_eq m c t2 h r l 1 (by show (t.val - 2) % 4 = 1; omega) (by omega),
      Wl_eq m c t1 h r l 2 (by show (t.val - 1) % 4 = 2; omega) (by omega), Wl_eq m c t h r l 3 h3 (by omega)]
    have g1 : gOf t1 = gOf t := Fin.ext (by show (t.val - 1) / 32 = t.val / 32; omega)
    have g2 : gOf t2 = gOf t := Fin.ext (by show (t.val - 2) / 32 = t.val / 32; omega)
    have g3 : gOf t3 = gOf t := Fin.ext (by show (t.val - 3) / 32 = t.val / 32; omega)
    have r1 : rowOf t1 r = rowOf t r := Fin.ext (by show 1024 * ((t.val - 1) / 4 % 8) + _ = 1024 * (t.val / 4 % 8) + _; rw [show (t.val - 1) / 4 = t.val / 4 by omega])
    have r2 : rowOf t2 r = rowOf t r := Fin.ext (by show 1024 * ((t.val - 2) / 4 % 8) + _ = 1024 * (t.val / 4 % 8) + _; rw [show (t.val - 2) / 4 = t.val / 4 by omega])
    have r3 : rowOf t3 r = rowOf t r := Fin.ext (by show 1024 * ((t.val - 3) / 4 % 8) + _ = 1024 * (t.val / 4 % 8) + _; rw [show (t.val - 3) / 4 = t.val / 4 by omega])
    rw [g1, g2, g3, r1, r2, r3]
  have hp : Wc m c t3 h (y 1) 0 + Wl m c t3 h (y 1) 0 + Wl m c t2 h (y 1) 0 + Wl m c t1 h (y 1) 0 + Wl m c t h (y 1) 0 ≠ 0 := by
    rw [key (y 1) 0]
    exact (count_pos m c _ _ h).ne'
  refine (out_last m c hr t t1 h3 rfl _ a1 y h d hy hp).trans ?_
  rw [key (y 1), key (y 1)]

/-- The result's array after the run. -/
theorem final (hr : Reals m c) : (dats m 0 c).arrAt 5 (cfgs 0).N = gRes m c := by
  refine (dats m 0 c).arrAt_eq_of_covers 5 _ (by decide +kernel) fun t hf y => ?_
  have h3 : t.val % 4 = 3 := (by decide +kernel : ∀ t : Fin grid0.N, win0_5.flush t = true → t.val % 4 = 3) t hf
  blk_simp
  rw [after0_5]
  have hy : (y 2).val < 512 := (y 2).isLt
  refine (out_block m c hr t h3 y ⟨(y 2).val / 64, by omega⟩ ⟨(y 2).val % 64, by omega⟩ (by dsimp only; omega)).trans ?_
  have e : (win0_5.blk t).view.emb y = ix3 (gOf t) (rowOf t (y 1)) (y 2) := by
    blk_ext [idx t]
  rw [e]
  rfl

end Cert.Flash
-- ==== Proof.FlashRef.lean ====
module

public import proofs.«01_k».proof.Proof.FlashFinal
public import proofs.«01_k».proof.Proof.Gen.ReferenceIdeal.Run

/-! The reference's softmax attention, read element by element. -/

@[expose] public section

set_option maxRecDepth 16384

noncomputable section

namespace Cert.Flash

open Idealize.ShloMosaic Idealize.ShloMosaic.TcCoe Idealize.SL.Sem
open Cert.ReferenceIdeal Cert.ReferenceIdeal.Gen

theorem cat_keys (a : FVec Ideal S4x256x1024 .f32) (b : FVec Ideal S4x8192x1024 .f32) :
    concatenate S4x8448x1024 1 [⟨S4x256x1024, a⟩, ⟨S4x8192x1024, b⟩] concatenates_S4x256x1024_S4x8192x1024_S4x8448x1024_d1
      = fun i => keys a b (i 0) (i 1) (i 2) := by
  funext i
  pointwise [keys]

theorem cat_vals (a : FVec Ideal S4x256x128 .f32) (b : FVec Ideal S4x8192x128 .f32) :
    concatenate S4x8448x128 1 [⟨S4x256x128, a⟩, ⟨S4x8192x128, b⟩] concatenates_S4x256x128_S4x8192x128_S4x8448x128_d1
      = fun i => keys a b (i 0) (i 1) (i 2) := by
  funext i
  pointwise [keys]

/-- The bits of two. -/
theorem two_bits : Ideal.ofBits FTy.f32 0x40000000#32 = ((2 : ℝ) : EReal) := by
  simp [Ideal.ofBits, Ideal.ieee]
  rw [← EReal.coe_mul]
  norm_num

/-- The logarithm of two, as the reference computes it. -/
theorem log_two : Ideal.log (Ideal.ofBits FTy.f32 0x40000000#32) = ((Real.log 2 : ℝ) : EReal) := by
  rw [two_bits]
  show (if (2 : ℝ) ≤ 0 then (⊥ : EReal) else (Real.log 2 : EReal)) = _
  rw [if_neg (by norm_num)]

section all
variable (q : S4x8192x1024.Idx → EReal) (kc : S4x256x1024.Idx → EReal) (vc : S4x256x128.Idx → EReal) (k : S4x8192x1024.Idx → EReal)
  (v : S4x8192x128.Idx → EReal) (g : Fin 4) (R : Fin 8192) (h : Fin 8)

/-- The reference's score, in its two halves. -/
def hScore (T : Fin 8448) : EReal :=
  (∑ d : Fin 64, q (ix3 g R ⟨h.val * 128 + d.val, by omega⟩) * keys kc k g T ⟨h.val * 128 + d.val, by omega⟩)
    + ∑ d : Fin 64, keys vc v g T ⟨64 + d.val, by omega⟩ * q (ix3 g R ⟨h.val * 128 + (64 + d.val), by omega⟩)

theorem score_halves (T : Fin 8448) : gScore q kc vc k v g R h T = hScore q kc vc k v g R h T := by
  unfold gScore hScore
  rw [show (∑ d : Fin 128, q (ix3 g R (col h d)) * if d.val < 64 then keys kc k g T (col h d) else keys vc v g T d)
    = ∑ d : Fin (64 + 64), q (ix3 g R (col h d)) * if d.val < 64 then keys kc k g T (col h d) else keys vc v g T d from rfl, Fin.sum_univ_add]
  congr 1
  · refine Finset.sum_congr rfl fun d _ => ?_
    rw [if_pos (by show d.val < 64; omega)]
    have e : col h (Fin.castAdd 64 d) = ⟨h.val * 128 + d.val, by omega⟩ := Fin.ext (by show 128 * h.val + d.val = _; dsimp only; omega)
    rw [e]
  · refine Finset.sum_congr rfl fun d _ => ?_
    rw [if_neg (by show ¬ 64 + d.val < 64; omega), mul_comm]
    have e : col h (Fin.natAdd 64 d) = ⟨h.val * 128 + (64 + d.val), by omega⟩ := Fin.ext (by show 128 * h.val + (64 + d.val) = _; dsimp only; omega)
    rw [e]
    rfl

theorem keys_real {w : ℕ} {a : (⟨3, ![4, 256, w]⟩ : Shape).Idx → EReal} {b : (⟨3, ![4, 8192, w]⟩ : Shape).Idx → EReal}
    (ha : ∀ i, Rl (a i)) (hb : ∀ i, Rl (b i)) (T : Fin 8448) (l : Fin w) : Rl (keys a b g T l) := by
  unfold keys
  split_ifs
  · exact ha _
  · exact hb _

/-- The exponential of one scaled score less the greatest. -/
def expOf (S : Fin 8448 → EReal) (T : Fin 8448) : EReal :=
  Ideal.exp (S T * Ideal.log (Ideal.ofBits FTy.f32 0x40000000#32)
    - max (Ideal.ofBits FTy.f32 0xFF800000#32) (Finset.fold max (Ideal.ofBits FTy.f32 0xFF800000#32)
        (fun T => S T * Ideal.log (Ideal.ofBits FTy.f32 0x40000000#32)) Finset.univ))

/-- A softmax of real scores scaled by `log 2`, with the maximum taken off, times real values. -/
theorem soft (S V : Fin 8448 → EReal) (hS : ∀ T, Rl (S T)) (hV : ∀ T, Rl (V T)) :
    (∑ T, V T * Ideal.div (expOf S T) (∑ T, expOf S T))
      = (((∑ T, (2 : ℝ) ^ (S T).toReal * (V T).toReal) / ∑ T, (2 : ℝ) ^ (S T).toReal : ℝ) : EReal) := by
  unfold expOf
  have e : ∀ T, S T * Ideal.log (Ideal.ofBits FTy.f32 0x40000000#32) = (((S T).toReal * Real.log 2 : ℝ) : EReal) := fun T => by
    rw [log_two, EReal.coe_mul, hS T]
  obtain ⟨M, hM⟩ := AttnReal.fold_max_real (n := 8448) (by decide) fun T => (S T).toReal * Real.log 2
  simp only [e, neg_inf, hM, max_eq_right bot_le]
  rw [← AttnReal.softmax_avg (n := 8448) (by decide) _ _ M]
  refine Finset.sum_congr rfl fun T _ => ?_
  rw [mul_comm, hV T]

end all

/-- The reference's scores as one array. -/
def scoreArr (q : FVec Ideal S4x8192x1024 .f32) (kk : FVec Ideal S4x8448x1024 .f32) (vv : FVec Ideal S4x8448x128 .f32) :
    FVec Ideal S4x8x8192x8448 .f32 :=
  addf (Host.dotGeneral dot_S4x8192x8x64_S4x8448x8x64_S4x8x8192x8448_3_3_1_1_02_02 none
      (extractStridedSlice S4x8192x8x64 ![0, 0, 0, 0] (shapeCast _ q shapeCasts_S4x8192x1024_S4x8192x8x128) slices_S4x8192x8x128_S4x8192x8x64_0_0_0_0)
      (extractStridedSlice S4x8448x8x64 ![0, 0, 0, 0] (shapeCast _ kk shapeCasts_S4x8448x1024_S4x8448x8x128) slices_S4x8448x8x128_S4x8448x8x64_0_0_0_0))
    (transpose S4x8x8192x8448 [0, 3, 2, 1] (Host.dotGeneral dot_S4x8448x64_S4x8192x8x64_S4x8448x8192x8_2_3_1_12_0_0 none
      (extractStridedSlice S4x8448x64 ![0, 0, 64] vv slices_S4x8448x128_S4x8448x64_0_0_64)
      (extractStridedSlice S4x8192x8x64 ![0, 0, 0, 64] (shapeCast _ q shapeCasts_S4x8192x1024_S4x8192x8x128) slices_S4x8192x8x128_S4x8192x8x64_0_0_0_64))
      transposes_S4x8448x8192x8_S4x8x8192x8448_0_3_2_1)

/-- The exponentials of scaled scores less their row's greatest. -/
def expArr (a : FVec Ideal S4x8x8192x8448 .f32) : FVec Ideal S4x8x8192x8448 .f32 :=
  Host.exp (subf (mulf a (broadcastInDim S4x8x8192x8448 ![] bcast_S_S4x8x8192x8448 (Host.log (constant S_ .f32 0x40000000#32))))
    (broadcastInDim S4x8x8192x8448 ![0, 1, 2, 3] bcast_S4x8x8192x1_S4x8x8192x8448_0_1_2_3
      (broadcastInDim S4x8x8192x1 ![0, 1, 2] bcast_S4x8x8192_S4x8x8192x1_0_1_2
        (maximumf (broadcastInDim S4x8x8192 ![] bcast_S_S4x8x8192 (constant S_ .f32 0xFF800000#32))
          (Host.reduce FloatOps.maximumf (mulf a (broadcastInDim S4x8x8192x8448 ![] bcast_S_S4x8x8192x8448 (Host.log (constant S_ .f32 0x40000000#32))))
            (constant S_ .f32 0xFF800000#32) reducesTo_S4x8x8192x8448_S4x8x8192_d3 h_S_)))))

/-- The softmax weights. -/
def weightArr (e : FVec Ideal S4x8x8192x8448 .f32) : FVec Ideal S4x8x8192x8448 .f32 :=
  Host.divf e (broadcastInDim S4x8x8192x8448 ![0, 1, 2, 3] bcast_S4x8x8192x1_S4x8x8192x8448_0_1_2_3
    (broadcastInDim S4x8x8192x1 ![0, 1, 2] bcast_S4x8x8192_S4x8x8192x1_0_1_2
      (Host.reduceAdd e (constant S_ .f32 0x00000000#32) reducesTo_S4x8x8192x8448_S4x8x8192_d3 h_S_)))

/-- The weighted values, laid out as the result. -/
def mixArr (w : FVec Ideal S4x8x8192x8448 .f32) (kk : FVec Ideal S4x8448x1024 .f32) : FVec Ideal S4x8192x512 .f32 :=
  shapeCast _ (transpose S4x8192x8x64 [0, 3, 1, 2] (Host.dotGeneral dot_S4x8448x8x64_S4x8x8192x8448_S4x8x64x8192_1_3_3_2_02_01 none
    (extractStridedSlice S4x8448x8x64 ![0, 0, 0, 64] (shapeCast _ kk shapeCasts_S4x8448x1024_S4x8448x8x128) slices_S4x8448x8x128_S4x8448x8x64_0_0_0_64) w)
    transposes_S4x8x64x8192_S4x8192x8x64_0_3_1_2) shapeCasts_S4x8192x8x64_S4x8192x512

theorem score_arr_at (q : S4x8192x1024.Idx → EReal) (kc : S4x256x1024.Idx → EReal) (vc : S4x256x128.Idx → EReal)
    (k : S4x8192x1024.Idx → EReal) (v : S4x8192x128.Idx → EReal) (g : Fin 4) (h : Fin 8) (R : Fin 8192) (T : Fin 8448) :
    scoreArr q (fun i => keys kc k (i 0) (i 1) (i 2)) (fun i => keys vc v (i 0) (i 1) (i 2)) (ix4 g h R T)
      = hScore q kc vc k v g R h T := by
  pointwise [scoreArr, hScore]

theorem max_at (a : FVec Ideal S4x8x8192x8448 .f32) (g : Fin 4) (h : Fin 8) (R : Fin 8192) :
    Host.reduce (FloatOps.maximumf (F := Ideal)) a (constant S_ .f32 0xFF800000#32) reducesTo_S4x8x8192x8448_S4x8x8192_d3 h_S_ (ix3 g h R)
     = Finset.fold max (Ideal.ofBits FTy.f32 0xFF800000#32) (fun T => a (ix4 g h R T)) Finset.univ := by
  pointwise

theorem mul_at (a : FVec Ideal S4x8x8192x8448 .f32) (g : Fin 4) (h : Fin 8) (R : Fin 8192) (T : Fin 8448) :
    mulf a (broadcastInDim S4x8x8192x8448 ![] bcast_S_S4x8x8192x8448 (Host.log (constant S_ .f32 0x40000000#32))) (ix4 g h R T)
      = a (ix4 g h R T) * Ideal.log (Ideal.ofBits FTy.f32 0x40000000#32) := by
  pointwise

theorem exp_at (a : FVec Ideal S4x8x8192x8448 .f32) (M : FVec Ideal S4x8x8192 .f32) (g : Fin 4) (h : Fin 8) (R : Fin 8192) (T : Fin 8448) :
  Host.exp (subf (mulf a (broadcastInDim S4x8x8192x8448 ![] bcast_S_S4x8x8192x8448 (Host.log (constant S_ .f32 0x40000000#32))))
    (broadcastInDim S4x8x8192x8448 ![0, 1, 2, 3] bcast_S4x8x8192x1_S4x8x8192x8448_0_1_2_3
      (broadcastInDim S4x8x8192x1 ![0, 1, 2] bcast_S4x8x8192_S4x8x8192x1_0_1_2
        (maximumf (broadcastInDim S4x8x8192 ![] bcast_S_S4x8x8192 (constant S_ .f32 0xFF800000#32)) M)))) (ix4 g h R T)
   = Ideal.exp (a (ix4 g h R T) * Ideal.log (Ideal.ofBits FTy.f32 0x40000000#32)
    - max (Ideal.ofBits FTy.f32 0xFF800000#32) (M (ix3 g h R))) := by
  pointwise

theorem exp_arr_at (a : FVec Ideal S4x8x8192x8448 .f32) (g : Fin 4) (h : Fin 8) (R : Fin 8192) (T : Fin 8448) :
    expArr a (ix4 g h R T) = expOf (fun T => a (ix4 g h R T)) T := by
  unfold expArr expOf
  rw [exp_at, max_at]
  exact congrArg (fun f => Ideal.exp (a (ix4 g h R T) * _ - max _ (Finset.fold max _ f Finset.univ)))
    (funext fun T' => mul_at a g h R T')

theorem weight_arr_at (e : FVec Ideal S4x8x8192x8448 .f32) (g : Fin 4) (h : Fin 8) (R : Fin 8192) (T : Fin 8448) :
    weightArr e (ix4 g h R T) = Ideal.div (e (ix4 g h R T)) (∑ T : Fin 8448, e (ix4 g h R T)) := by
  pointwise [weightArr]

theorem mix_arr_at (w : FVec Ideal S4x8x8192x8448 .f32) (kc : S4x256x1024.Idx → EReal) (k : S4x8192x1024.Idx → EReal)
    (g : Fin 4) (R : Fin 8192) (x : Fin 512) :
    mixArr w (fun i => keys kc k (i 0) (i 1) (i 2)) (ix3 g R x)
      = ∑ T : Fin 8448, keys kc k g T ⟨x.val / 64 * 128 + (64 + x.val % 64), by omega⟩ * w (ix4 g ⟨x.val / 64, by omega⟩ R T) := by
  pointwise [mixArr]

/-- The reference's result is these stages one after the other. -/
theorem res_stages (m : (ℓ : Loc nD τ sig) → Buf (Elt Ideal) ℓ) (c : Dev nD) :
    Value.res_main_v35 m c
      = (let q : FVec Ideal S4x8192x1024 .f32 := m ((c.tc : Thread nD τ).loc main_arg0)
         let kk : FVec Ideal S4x8448x1024 .f32 := concatenate S4x8448x1024 1 [⟨S4x256x1024, (m ((c.tc : Thread nD τ).loc main_arg1))⟩, ⟨S4x8192x1024, (m ((c.tc : Thread nD τ).loc main_arg3))⟩] concatenates_S4x256x1024_S4x8192x1024_S4x8448x1024_d1
         let vv : FVec Ideal S4x8448x128 .f32 := concatenate S4x8448x128 1 [⟨S4x256x128, (m ((c.tc : Thread nD τ).loc main_arg2))⟩, ⟨S4x8192x128, (m ((c.tc : Thread nD τ).loc main_arg4))⟩] concatenates_S4x256x128_S4x8192x128_S4x8448x128_d1
         mixArr (weightArr (expArr (scoreArr q kk vv))) kk) := rfl

/-- The reference's result is the attention over all keys. -/
theorem ref_at (m : (ℓ : Loc nD τ sig) → Buf (Elt Ideal) ℓ) (c : Dev nD)
    (h0 : ∀ i, Rl (m ((c.tc : Thread nD τ).loc main_arg0) i)) (h1 : ∀ i, Rl (m ((c.tc : Thread nD τ).loc main_arg1) i))
    (h2 : ∀ i, Rl (m ((c.tc : Thread nD τ).loc main_arg2) i)) (h3 : ∀ i, Rl (m ((c.tc : Thread nD τ).loc main_arg3) i))
    (h4 : ∀ i, Rl (m ((c.tc : Thread nD τ).loc main_arg4) i)) (g : Fin 4) (R : Fin 8192) (x : Fin 512) :
    (show S4x8192x512.Idx → EReal from Value.res_main_v35 m c) (ix3 g R x)
      = ((gOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) g R
          ⟨x.val / 64, by omega⟩ ⟨64 + x.val % 64, by omega⟩ : ℝ) : EReal) := by
  refine (congrFun (res_stages m c) (ix3 g R x)).trans ?_
  generalize m ((c.tc : Thread nD τ).loc main_arg0) = q at *
  generalize m ((c.tc : Thread nD τ).loc main_arg1) = kc at *
  generalize m ((c.tc : Thread nD τ).loc main_arg2) = vc at *
  generalize m ((c.tc : Thread nD τ).loc main_arg3) = k at *
  generalize m ((c.tc : Thread nD τ).loc main_arg4) = v at *
  simp only [cat_keys, cat_vals, mix_arr_at, weight_arr_at, exp_arr_at, score_arr_at]
  refine (soft (hScore q kc vc k v g R ⟨x.val / 64, by omega⟩) (fun T => keys kc k g T ⟨x.val / 64 * 128 + (64 + x.val % 64), by omega⟩)
    (fun T => by rw [← score_halves]; exact Rl.sum fun d => (h0 _).mul ((keys_real _ h1 h3 T _).ite (keys_real _ h2 h4 T _)))
    (fun T => keys_real _ h1 h3 T _)).trans ?_
  unfold gOut gTerm
  have e : ∀ T, gVal kc k g ⟨x.val / 64, by omega⟩ T 0 = 1 := fun T => by
    rw [gVal, if_pos (by decide), if_pos (by decide)]
  have e' : ∀ T, gVal kc k g ⟨x.val / 64, by omega⟩ T ⟨64 + x.val % 64, by omega⟩
      = keys kc k g T ⟨x.val / 64 * 128 + (64 + x.val % 64), by omega⟩ := fun T => by
    rw [gVal, if_neg (by dsimp only; omega)]
    exact congrArg _ (Fin.ext (by dsimp only; omega))
  simp only [e, e', EReal.toReal_one, mul_one, score_halves]

end Cert.Flash
-- ==== Proof.FlashClaim.lean ====
module

public import proofs.«01_k».proof.Defs
public import proofs.«01_k».proof.Proof.Finite
public import proofs.«01_k».proof.Proof.FlashRef
public import Idealize.ShloMosaic.Lib.Claim

/-! The claim about the attention's values: kernel and reference end with the same array. -/

@[expose] public section

set_option maxRecDepth 16384

noncomputable section

namespace Cert.Flash

open Idealize.ShloMosaic Idealize.ShloMosaic.TcCoe Idealize.SL.Sem

/-- The kernel's closed form is the reference's term, over arguments that agree. -/
theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hr : Reals m c)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (show Cert.KernelIdeal.S4x8192x512.Idx → EReal from Cert.ReferenceIdeal.Value.res_main_v35 m' c) = gRes m c := by
  obtain ⟨e0, e1, e2, e3, e4⟩ := h
  obtain ⟨r0, r1, r2, r3, r4⟩ := hr
  funext y
  have ey : y = ix3 (y 0) (y 1) (y 2) := by
    funext a
    match a with
    | 0 => rfl
    | 1 => rfl
    | 2 => rfl
  have key := ref_at m' c (fun i => (congrFun e0 i).symm ▸ r0 i) (fun i => (congrFun e1 i).symm ▸ r1 i) (fun i => (congrFun e2 i).symm ▸ r2 i)
    (fun i => (congrFun e3 i).symm ▸ r3 i) (fun i => (congrFun e4 i).symm ▸ r4 i) (y 0) (y 1) (y 2)
  refine (congrArg (show Cert.KernelIdeal.S4x8192x512.Idx → EReal from Cert.ReferenceIdeal.Value.res_main_v35 m' c) ey).trans (key.trans ?_)
  rw [e0, e1, e2, e3, e4]
  rfl

theorem algebraic : Cert.algebraic_KernelIdeal_ReferenceIdeal_pre_finite (hPre_finite := pre_facts) := by
  intro m g m' g' hpre hagree
  refine ⟨fun c => gRes m c, ?_, ?_⟩
  · run_from Cert.KernelIdeal.Gen.run_main m g
    exact final m c (reals_of_pre m hpre c)
  · refine (θ_run _ _ _).mono (fun r h c => ⟨(h c).1.trans (res_eq m m' c (reals_of_pre m hpre c) (hagree c)), (h c).2⟩)
      (Cert.ReferenceIdeal.Value.run m' g')

end Cert.Flash
-- ==== Proof.InProj.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack

/-! The input projections: the modulated rows times the two weights, the second through the logistic function. -/

@[expose] public section

set_option maxRecDepth 16384

noncomputable section

namespace Cert.InProj

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- Every window's block index at point `t`. -/
theorem idx : ∀ t : Fin cfg0.N, t.val < 64 ∧ win0_0.index t = ![t.val / 16, t.val / 2 % 8, 0] ∧ win0_1.index t = ![0, 0]
    ∧ win0_2.index t = ![t.val / 16, 0, 0] ∧ win0_3.index t = ![t.val / 16, 0, 0]
    ∧ win0_4.index t = ![0, 0, t.val % 2] ∧ win0_5.index t = ![0, 0, t.val % 2]
    ∧ win0_6.index t = ![t.val / 16, t.val / 2 % 8, t.val % 2] ∧ win0_7.index t = ![t.val / 16, t.val / 2 % 8, t.val % 2] :=
  (by decide +kernel : ∀ t : Fin grid0.N, _)

/-- The modulated rows, as the reference computes them. -/
def rows (x : FVec Ideal S4x8192x1024 .f32) (g : FVec Ideal S1x1024 .f32) (sc sh : FVec Ideal S4x1x1024 .f32) :
    FVec Ideal S4x8192x1024 .f32 :=
  addf (mulf (mulf (mulf x (broadcastInDim Cert.Reference3Ideal.S4x8192x1024 ![0, 1, 2] Cert.Reference3Ideal.Gen.bcast_S4x8192x1_S4x8192x1024_0_1_2 (Host.rsqrt (addf (Host.divf (broadcastInDim Cert.Reference3Ideal.S4x8192x1 ![0, 1] Cert.Reference3Ideal.Gen.bcast_S4x8192_S4x8192x1_0_1 (Host.reduceAdd (mulf x x) (constant Cert.Reference3Ideal.S_ .f32 0x00000000#32) Cert.Reference3Ideal.Gen.reducesTo_S4x8192x1024_S4x8192_d2 Cert.Reference3Ideal.Gen.h_S_)) (broadcastInDim Cert.Reference3Ideal.S4x8192x1 ![] Cert.Reference3Ideal.Gen.bcast_S_S4x8192x1 (constant Cert.Reference3Ideal.S_ .f32 0x44800000#32))) (broadcastInDim Cert.Reference3Ideal.S4x8192x1 ![] Cert.Reference3Ideal.Gen.bcast_S_S4x8192x1 (constant Cert.Reference3Ideal.S_ .f32 0x358637BD#32)))))) (broadcastInDim Cert.Reference3Ideal.S4x8192x1024 ![0, 1, 2] Cert.Reference3Ideal.Gen.bcast_S1x1x1024_S4x8192x1024_0_1_2 (broadcastInDim Cert.Reference3Ideal.S1x1x1024 ![2] Cert.Reference3Ideal.Gen.bcast_S1024_S1x1x1024_2 (shapeCast _ g Cert.Reference3Ideal.Gen.shapeCasts_S1x1024_S1024)))) (broadcastInDim Cert.Reference3Ideal.S4x8192x1024 ![0, 1, 2] Cert.Reference3Ideal.Gen.bcast_S4x1x1024_S4x8192x1024_0_1_2 (addf (broadcastInDim Cert.Reference3Ideal.S4x1x1024 ![] Cert.Reference3Ideal.Gen.bcast_S_S4x1x1024 (constant Cert.Reference3Ideal.S_ .f32 0x3F800000#32)) sc))) (broadcastInDim Cert.Reference3Ideal.S4x8192x1024 ![0, 1, 2] Cert.Reference3Ideal.Gen.bcast_S4x1x1024_S4x8192x1024_0_1_2 sh)

/-- The rows times the first layer of a weight. -/
def times (h : FVec Ideal S4x8192x1024 .f32) (w : FVec Ideal S2x1024x3072 .bf16) : FVec Ideal S4x8192x3072 .f32 :=
  Host.dotGeneral Cert.Reference3Ideal.dot_S4x8192x1024_S1024x3072_S4x8192x3072_2_0_01_1_n_n none h (shapeCast _ (extractStridedSlice Cert.Reference3Ideal.S1x1024x3072 ![0, 0, 0] (extf .f32 w Cert.Reference3Ideal.Gen.bitsLt_bf16_f32) Cert.Reference3Ideal.Gen.slices_S2x1024x3072_S1x1024x3072_0_0_0) Cert.Reference3Ideal.Gen.shapeCasts_S1x1024x3072_S1024x3072)

/-- The reference's first result. -/
def zRef (x : FVec Ideal S4x8192x1024 .f32) (g : FVec Ideal S1x1024 .f32) (sc sh : FVec Ideal S4x1x1024 .f32)
    (w : FVec Ideal S2x1024x3072 .bf16) : FVec Ideal S4x8192x3072 .bf16 :=
  truncf .bf16 (times (rows x g sc sh) w) Cert.Reference3Ideal.Gen.bitsLt_bf16_f32

/-- The reference's second result. -/
def gRef (x : FVec Ideal S4x8192x1024 .f32) (g : FVec Ideal S1x1024 .f32) (sc sh : FVec Ideal S4x1x1024 .f32)
    (w : FVec Ideal S2x1024x3072 .bf16) : FVec Ideal S4x8192x3072 .bf16 :=
  truncf .bf16 (Host.divf (broadcastInDim Cert.Reference3Ideal.S4x8192x3072 ![] Cert.Reference3Ideal.Gen.bcast_S_S4x8192x3072 (constant Cert.Reference3Ideal.S_ .f32 0x3F800000#32)) (addf (broadcastInDim Cert.Reference3Ideal.S4x8192x3072 ![] Cert.Reference3Ideal.Gen.bcast_S_S4x8192x3072 (constant Cert.Reference3Ideal.S_ .f32 0x3F800000#32)) (Host.exp (Host.negf (times (rows x g sc sh) w))))) Cert.Reference3Ideal.Gen.bitsLt_bf16_f32

/-- The kernel's rows at the point `t'` that fills the scratch, as the scratch holds them. -/
abbrev kRows (c : Dev nD) (t' : Fin cfg0.N) : FVec Ideal S1024x1024 .bf16 :=
  k0_pay1 (F := Ideal) (iblk m c 0 t') (iblk m c 1 t') (iblk m c 2 t') (iblk m c 3 t')

/-- A block of the first result, the scratch filled at a point of the same rows. -/
theorem z_at (c : Dev nD) (t t' : Fin cfg0.N) (h : t'.val / 2 = t.val / 2) (y) :
    k0_pay3 (F := Ideal) (kRows m c t') (iblk m c 4 t) y
      = zRef (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  pointwise [kRows, k0_pay3, k0_pay1, zRef, times, rows]
  blk_point [iblk, V, idx t, idx t']

/-- A block of the second result. -/
theorem g_at (c : Dev nD) (t t' : Fin cfg0.N) (h : t'.val / 2 = t.val / 2) (y) :
    k0_pay2 (F := Ideal) (kRows m c t') (iblk m c 5 t) y
      = gRef (m ((c : Thread nD τ).loc main_arg0)) (m ((c : Thread nD τ).loc main_arg1)) (m ((c : Thread nD τ).loc main_arg2))
          (m ((c : Thread nD τ).loc main_arg3)) (m ((c : Thread nD τ).loc main_arg5)) (((cfg0.win 7).blk t).view.emb y) := by
  pointwise [kRows, k0_pay2, k0_pay1, gRef, times, rows]
  refine congrArg (fun s : EReal => Ideal.div 1 (1 + Ideal.exp (-s))) ?_
  blk_point [iblk, V, idx t, idx t']

/-- What the scratch holds after a point where it is filled. -/
theorem filled (c : Dev nD) (t : Fin cfg0.N) (h : t.val % 2 = 0) : (outsAt0 m c t.val t.isLt).2.2 = kRows m c t := by
  rw [outsAt0_A m c t h]
  dsimp only
  frame_out

/-- The first result's block after point `t`: some point of the same rows filled the scratch it reads. -/
theorem z_block (c : Dev nD) (t : Fin cfg0.N) : ∃ t' : Fin cfg0.N, t'.val / 2 = t.val / 2 ∧
    (outsAt0 m c t.val t.isLt).1 = k0_pay3 (F := Ideal) (kRows m c t') (iblk m c 4 t) := by
  by_cases h : t.val % 2 = 0
  · refine ⟨t, rfl, ?_⟩
    rw [outsAt0_A m c t h]
    dsimp only
    frame_out
  · refine ⟨⟨t.val - 1, Nat.lt_of_le_of_lt (Nat.sub_le _ _) t.isLt⟩, by dsimp only; omega, ?_⟩
    rw [outsAt0_B m c t h]
    dsimp only
    frame_out
    rw [read_unread_whole]
    rw [filled m c ⟨t.val - 1, Nat.lt_of_le_of_lt (Nat.sub_le _ _) t.isLt⟩ (by dsimp only; omega)]

/-- The second result's block after point `t`. -/
theorem g_block (c : Dev nD) (t : Fin cfg0.N) : ∃ t' : Fin cfg0.N, t'.val / 2 = t.val / 2 ∧
    (outsAt0 m c t.val t.isLt).2.1 = k0_pay2 (F := Ideal) (kRows m c t') (iblk m c 5 t) := by
  by_cases h : t.val % 2 = 0
  · refine ⟨t, rfl, ?_⟩
    rw [outsAt0_A m c t h]
    dsimp only
    frame_out
  · refine ⟨⟨t.val - 1, Nat.lt_of_le_of_lt (Nat.sub_le _ _) t.isLt⟩, by dsimp only; omega, ?_⟩
    rw [outsAt0_B m c t h]
    dsimp only
    frame_out
    rw [read_unread_whole]
    rw [filled m c ⟨t.val - 1, Nat.lt_of_le_of_lt (Nat.sub_le _ _) t.isLt⟩ (by dsimp only; omega)]

/-- The first result's array after the run. -/
theorem z_final (c : Dev nD) : (dats m 0 c).arrAt 6 (cfgs 0).N
    = zRef (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6]
  obtain ⟨t', h, he⟩ := z_block m c t
  rw [he]
  exact z_at m c t t' h y

/-- The second result's array after the run. -/
theorem g_final (c : Dev nD) : (dats m 0 c).arrAt 7 (cfgs 0).N
    = gRef (m ((c : Thread nD τ).loc main_arg0)) (m ((c : Thread nD τ).loc main_arg1)) (m ((c : Thread nD τ).loc main_arg2))
        (m ((c : Thread nD τ).loc main_arg3)) (m ((c : Thread nD τ).loc main_arg5)) := by
  refine (dats m 0 c).arrAt_eq_of_covers 7 _ (by decide +kernel) fun t hf y => ?_
  blk_simp
  rw [after0_7]
  obtain ⟨t', h, he⟩ := g_block m c t
  rw [he]
  exact g_at m c t t' h y

end Cert.InProj
-- ==== Proof.FfnRef.lean ====
module

public import proofs.«01_k».proof.Proof.InProj
public import proofs.«01_k».proof.Proof.Gen.Reference2Ideal.Run

/-! The channel mixer as mathematics, and the reference read element by element. -/

@[expose] public section

set_option maxRecDepth 16384

noncomputable section

namespace Cert.Ffn

open Idealize.ShloMosaic Idealize.ShloMosaic.TcCoe Idealize.SL.Sem
open Cert.Reference2Ideal Cert.Reference2Ideal.Gen

/-- A row normalised and modulated, at one column. -/
def nm (X g s h : Fin 1024 → EReal) (d : Fin 1024) : EReal :=
  X d * Ideal.rsqrt (Ideal.div (∑ k, X k * X k) (Ideal.ofBits FTy.f32 1149239296#32) + Ideal.ofBits FTy.f32 897988541#32) * g d * (1 + s d) + h d

/-- The gate's activation. -/
def gelu (a : EReal) : EReal :=
  Ideal.ofBits FTy.f32 1056964608#32 * a * (1 + Ideal.tanh (Ideal.ofBits FTy.f32 1061962282#32 * (a + Ideal.ofBits FTy.f32 1027024659#32 * (a * a * a))))

section math
variable (x : FVec Ideal S4x8192x1024 .f32) (g : FVec Ideal S1x1024 .f32) (sc sh : FVec Ideal S4x1x1024 .f32)
  (w : FVec Ideal S2x1024x5632 .bf16) (cw : FVec Ideal S2x3x5632 .f32) (cb : FVec Ideal S2x1x5632 .f32)
  (wd : FVec Ideal S2x2816x1024 .bf16) (gate : FVec Ideal S4x1x1024 .f32) (gp : FVec Ideal S1x1024 .f32)

/-- The modulated rows with a zero row before the first and after the last. -/
def padded (b : Fin 4) (n : ℕ) (d : Fin 1024) : EReal :=
  if p : 1 ≤ n ∧ n ≤ 8192 then nm (fun k => x (ix3 b ⟨n - 1, by omega⟩ k)) (fun k => g (ix2 0 k)) (fun k => sc (ix3 b 0 k)) (fun k => sh (ix3 b 0 k)) d
  else 0

/-- Those rows times the first weight. -/
def up (b : Fin 4) (n : ℕ) (k : Fin 5632) : EReal := ∑ d : Fin 1024, padded x g sc sh b n d * w (ix3 1 d k)

/-- The convolution over three neighbouring rows. -/
def conv (b : Fin 4) (r : ℕ) (k : Fin 5632) : EReal :=
  cb (ix3 1 0 k) + up x g sc sh w b r k * cw (ix3 1 0 k) + up x g sc sh w b (r + 1) k * cw (ix3 1 1 k) + up x g sc sh w b (r + 2) k * cw (ix3 1 2 k)

/-- The gated values times the second weight. -/
def down (b : Fin 4) (r : ℕ) (d : Fin 1024) : EReal :=
  ∑ k : Fin 2816, gelu (conv x g sc sh w cw cb b r ⟨k.val, by omega⟩) * conv x g sc sh w cw cb b r ⟨2816 + k.val, by omega⟩ * wd (ix3 1 k d)

/-- The result: what was added to the stream, normalised and gated. -/
def result (b : Fin 4) (r : Fin 8192) (d : Fin 1024) : EReal :=
  x (ix3 b r d) + gate (ix3 b 0 d) * (down x g sc sh w cw cb wd b r d
    * Ideal.rsqrt (Ideal.div (∑ k, down x g sc sh w cw cb wd b r k * down x g sc sh w cw cb wd b r k) (Ideal.ofBits FTy.f32 1149239296#32) + Ideal.ofBits FTy.f32 897988541#32)
    * gp (ix2 0 d))

end math

section ref
variable (x : FVec Ideal S4x8192x1024 .f32) (g : FVec Ideal S1x1024 .f32) (sc sh : FVec Ideal S4x1x1024 .f32)
  (w : FVec Ideal S2x1024x5632 .bf16) (cw : FVec Ideal S2x3x5632 .f32) (cb : FVec Ideal S2x1x5632 .f32)
  (wd : FVec Ideal S2x2816x1024 .bf16) (gate : FVec Ideal S4x1x1024 .f32) (gp : FVec Ideal S1x1024 .f32)

/-- The reference's projected rows, padded. -/
def upArr (h : FVec Ideal S4x8192x1024 .f32) (w : FVec Ideal S2x1024x5632 .bf16) : FVec Ideal S4x8194x5632 .f32 :=
  pad S4x8194x5632 ![0, 1, 0] ![0, 1, 0] ![0, 0, 0] (Host.dotGeneral dot_S4x8192x1024_S1024x5632_S4x8192x5632_2_0_01_1_n_n none h (shapeCast _ (extractStridedSlice S1x1024x5632 ![1, 0, 0] (extf .f32 w bitsLt_bf16_f32) slices_S2x1024x5632_S1x1024x5632_1_0_0) shapeCasts_S1x1024x5632_S1024x5632)) (sitofp .f32 (constantI S_ 32 0#32)) pads_S4x8192x5632_S4x8194x5632_000_110_000 h_S_

/-- The reference's three taps. -/
def taps (cw : FVec Ideal S2x3x5632 .f32) : FVec Ideal S3x5632 .f32 :=
  shapeCast _ (extractStridedSlice S1x3x5632 ![1, 0, 0] cw slices_S2x3x5632_S1x3x5632_1_0_0) shapeCasts_S1x3x5632_S3x5632

/-- The reference's convolution. -/
def convArr (u : FVec Ideal S4x8194x5632 .f32) (cw : FVec Ideal S2x3x5632 .f32) (cb : FVec Ideal S2x1x5632 .f32) : FVec Ideal S4x8192x5632 .f32 :=
  addf (addf (addf (broadcastInDim S4x8192x5632 ![0, 1, 2] bcast_S1x1x5632_S4x8192x5632_0_1_2 (broadcastInDim S1x1x5632 ![2] bcast_S5632_S1x1x5632_2 (shapeCast _ (extractStridedSlice S1x1x5632 ![1, 0, 0] cb slices_S2x1x5632_S1x1x5632_1_0_0) shapeCasts_S1x1x5632_S5632))) (mulf (extractStridedSlice S4x8192x5632 ![0, 0, 0] u slices_S4x8194x5632_S4x8192x5632_0_0_0) (broadcastInDim S4x8192x5632 ![0, 1, 2] bcast_S1x1x5632_S4x8192x5632_0_1_2 (broadcastInDim S1x1x5632 ![2] bcast_S5632_S1x1x5632_2 (shapeCast _ (extractStridedSlice S1x5632 ![0, 0] (taps cw) slices_S3x5632_S1x5632_0_0) shapeCasts_S1x5632_S5632))))) (mulf (extractStridedSlice S4x8192x5632 ![0, 1, 0] u slices_S4x8194x5632_S4x8192x5632_0_1_0) (broadcastInDim S4x8192x5632 ![0, 1, 2] bcast_S1x1x5632_S4x8192x5632_0_1_2 (broadcastInDim S1x1x5632 ![2] bcast_S5632_S1x1x5632_2 (shapeCast _ (extractStridedSlice S1x5632 ![1, 0] (taps cw) slices_S3x5632_S1x5632_1_0) shapeCasts_S1x5632_S5632))))) (mulf (extractStridedSlice S4x8192x5632 ![0, 2, 0] u slices_S4x8194x5632_S4x8192x5632_0_2_0) (broadcastInDim S4x8192x5632 ![0, 1, 2] bcast_S1x1x5632_S4x8192x5632_0_1_2 (broadcastInDim S1x1x5632 ![2] bcast_S5632_S1x1x5632_2 (shapeCast _ (extractStridedSlice S1x5632 ![2, 0] (taps cw) slices_S3x5632_S1x5632_2_0) shapeCasts_S1x5632_S5632))))

/-- The half the activation reads. -/
def halfA (y : FVec Ideal S4x8192x5632 .f32) : FVec Ideal S4x8192x2816 .f32 :=
  extractStridedSlice S4x8192x2816 ![0, 0, 0] y slices_S4x8192x5632_S4x8192x2816_0_0_0

/-- The reference's second product. -/
def downArr (y : FVec Ideal S4x8192x5632 .f32) (wd : FVec Ideal S2x2816x1024 .bf16) : FVec Ideal S4x8192x1024 .f32 :=
  Host.dotGeneral dot_S4x8192x2816_S2816x1024_S4x8192x1024_2_0_01_1_n_n none (mulf (mulf (halfA y) (mulf (broadcastInDim S4x8192x2816 ![] bcast_S_S4x8192x2816 (constant S_ .f32 0x3F000000#32)) (addf (broadcastInDim S4x8192x2816 ![] bcast_S_S4x8192x2816 (constant S_ .f32 0x3F800000#32)) (Host.tanh (mulf (broadcastInDim S4x8192x2816 ![] bcast_S_S4x8192x2816 (constant S_ .f32 0x3F4C422A#32)) (addf (halfA y) (mulf (broadcastInDim S4x8192x2816 ![] bcast_S_S4x8192x2816 (constant S_ .f32 0x3D372713#32)) (mulf (mulf (halfA y) (halfA y)) (halfA y))))))))) (extractStridedSlice S4x8192x2816 ![0, 0, 2816] y slices_S4x8192x5632_S4x8192x2816_0_0_2816)) (shapeCast _ (extractStridedSlice S1x2816x1024 ![1, 0, 0] (extf .f32 wd bitsLt_bf16_f32) slices_S2x2816x1024_S1x2816x1024_1_0_0) shapeCasts_S1x2816x1024_S2816x1024)

/-- The reference's result, from the second product. -/
def outArr (x : FVec Ideal S4x8192x1024 .f32) (a : FVec Ideal S4x8192x1024 .f32) (gate : FVec Ideal S4x1x1024 .f32) (gp : FVec Ideal S1x1024 .f32) : FVec Ideal S4x8192x1024 .f32 :=
  addf x (mulf (broadcastInDim S4x8192x1024 ![0, 1, 2] bcast_S4x1x1024_S4x8192x1024_0_1_2 gate) (mulf (mulf a (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a a) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ gp shapeCasts_S1x1024_S1024)))))

/-- The whole reference. -/
def ref : FVec Ideal S4x8192x1024 .f32 :=
  outArr x (downArr (convArr (upArr (Cert.InProj.rows x g sc sh) w) cw cb) wd) gate gp

theorem upArr_at (b : Fin 4) (n : Fin 8194) (k : Fin 5632) :
    upArr (Cert.InProj.rows x g sc sh) w (ix3 b n k) = up x g sc sh w b n k := by
  pointwise [upArr, Cert.InProj.rows]
  unfold up padded nm
  by_cases p : 1 ≤ n.val ∧ n.val - 1 < 8192
  · rw [dif_pos p]
    simp only [dif_pos (show 1 ≤ n.val ∧ n.val ≤ 8192 by omega)]
  · rw [dif_neg p]
    simp only [dif_neg (show ¬ (1 ≤ n.val ∧ n.val ≤ 8192) by omega), zero_mul, Finset.sum_const_zero]
    show (((0#32 : BitVec 32).toInt : ℝ) : EReal) = 0
    simp

theorem convArr_at (u : FVec Ideal S4x8194x5632 .f32) (b : Fin 4) (r : Fin 8192) (k : Fin 5632) : convArr u cw cb (ix3 b r k)
    = cb (ix3 1 0 k) + u (ix3 b ⟨r.val, by omega⟩ k) * cw (ix3 1 0 k) + u (ix3 b ⟨r.val + 1, by omega⟩ k) * cw (ix3 1 1 k)
      + u (ix3 b ⟨r.val + 2, by omega⟩ k) * cw (ix3 1 2 k) := by
  pointwise [convArr, taps]
  simp only [Nat.add_comm]

theorem downArr_at (y : FVec Ideal S4x8192x5632 .f32) (b : Fin 4) (r : Fin 8192) (d : Fin 1024) : downArr y wd (ix3 b r d)
    = ∑ k : Fin 2816, gelu (y (ix3 b r ⟨k.val, by omega⟩)) * y (ix3 b r ⟨2816 + k.val, by omega⟩) * wd (ix3 1 k d) := by
  pointwise [downArr, halfA, gelu]
  refine Finset.sum_congr rfl fun k _ => ?_
  generalize y (ix3 b r ⟨k.val, _⟩) = a
  rw [← mul_assoc a, mul_comm a]

theorem outArr_at (a : FVec Ideal S4x8192x1024 .f32) (b : Fin 4) (r : Fin 8192) (d : Fin 1024) : outArr x a gate gp (ix3 b r d)
    = x (ix3 b r d) + gate (ix3 b 0 d) * (a (ix3 b r d)
    * Ideal.rsqrt (Ideal.div (∑ k, a (ix3 b r k) * a (ix3 b r k)) (Ideal.ofBits FTy.f32 1149239296#32) + Ideal.ofBits FTy.f32 897988541#32)
    * gp (ix2 0 d)) := by
  pointwise [outArr]

theorem ref_at (b : Fin 4) (r : Fin 8192) (d : Fin 1024) :
    ref x g sc sh w cw cb wd gate gp (ix3 b r d) = result x g sc sh w cw cb wd gate gp b r d := by
  unfold ref result down conv
  simp only [outArr_at, downArr_at, convArr_at, upArr_at]

/-- The reference's term is that. -/
theorem term (V : Valuation τ sig (Elt Ideal)) : Cert.Reference2Ideal.Value.res_main_v71 V
    = downArr (convArr (upArr (Cert.InProj.rows (V (Proc.devRef .tc main_arg0)) (V (Proc.devRef .tc main_arg1)) (V (Proc.devRef .tc main_arg2))
      (V (Proc.devRef .tc main_arg3))) (V (Proc.devRef .tc main_arg4))) (V (Proc.devRef .tc main_arg5)) (V (Proc.devRef .tc main_arg6))) (V (Proc.devRef .tc main_arg7)) := by
  have e1 : Cert.Reference2Ideal.Value.res_main_v31 V = upArr (Cert.InProj.rows (V (Proc.devRef .tc main_arg0)) (V (Proc.devRef .tc main_arg1))
      (V (Proc.devRef .tc main_arg2)) (V (Proc.devRef .tc main_arg3))) (V (Proc.devRef .tc main_arg4)) := rfl
  have e0 : Cert.Reference2Ideal.Value.res_main_v24 V = taps (V (Proc.devRef .tc main_arg5)) := rfl
  have e2 : Cert.Reference2Ideal.Value.res_main_v54 V = convArr (Cert.Reference2Ideal.Value.res_main_v31 V) (V (Proc.devRef .tc main_arg5))
      (V (Proc.devRef .tc main_arg6)) := by
    unfold Cert.Reference2Ideal.Value.res_main_v54 convArr
    rw [e0]
  have e3 : Cert.Reference2Ideal.Value.res_main_v71 V = downArr (Cert.Reference2Ideal.Value.res_main_v54 V) (V (Proc.devRef .tc main_arg7)) := by
    have e4 : Cert.Reference2Ideal.Value.res_main_v55 V = halfA (Cert.Reference2Ideal.Value.res_main_v54 V) := rfl
    unfold Cert.Reference2Ideal.Value.res_main_v71 downArr
    rw [e4]
  rw [e3, e2, e1]

/-- The reference's result, as its run states it. -/
theorem run_ref (V : Valuation τ sig (Elt Ideal)) :
    outArr (V (Proc.devRef .tc main_arg0)) (Cert.Reference2Ideal.Value.res_main_v71 V) (V (Proc.devRef .tc main_arg8)) (V (Proc.devRef .tc main_arg9))
      = ref (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) (V (Proc.devRef .tc main_arg9)) := by
  rw [term]
  rfl

end ref

end Cert.Ffn
-- ==== Proof.Ffn.lean ====
module

public import proofs.«01_k».proof.Proof.FfnRef
public import proofs.«01_k».proof.Proof.Gen.Kernel2Ideal.Value
public import Idealize.ShloMosaic.Lib.Pipeline.ValueKit
public import Idealize.ShloMosaic.Lib.Pipeline.ReadBack

/-! The channel mixer's blocks: each is the reference's rows. -/

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

/-- Every window's block index at point `t`. -/
theorem idx : ∀ t : Fin cfg0.N, t.val < 64 ∧ win0_0.index t = ![t.val / 16, t.val % 16 * 64 - 1, 0]
    ∧ win0_1.index t = ![t.val / 16, t.val % 16, 0] ∧ win0_2.index t = ![t.val / 16, min (t.val % 16 * 64 + 64) 1023, 0]
    ∧ win0_3.index t = ![0, 0] ∧ win0_4.index t = ![t.val / 16, 0, 0] ∧ win0_5.index t = ![t.val / 16, 0, 0]
    ∧ win0_6.index t = ![1, 0, 0] ∧ win0_7.index t = ![1, 0, 1] ∧ win0_8.index t = ![1, 0, 0] ∧ win0_9.index t = ![1, 0, 1]
    ∧ win0_10.index t = ![1, 0, 0] ∧ win0_11.index t = ![1, 0, 1] ∧ win0_12.index t = ![1, 0, 0]
    ∧ win0_13.index t = ![t.val / 16, 0, 0] ∧ win0_14.index t = ![0, 0] ∧ win0_15.index t = ![t.val / 16, t.val % 16, 0] :=
  (by decide +kernel : ∀ t : Fin grid0.N, _)

/-- The masks at the ends of the rows. -/
theorem masks : ∀ t : Fin cfg0.N,
    Scalar.cmpi CmpIPredicate.sgt (BitVec.ofNat 32 (grid0.coords t 1).val) 0#32 = (if t.val % 16 = 0 then 0#1 else 1#1)
    ∧ Scalar.cmpi CmpIPredicate.slt (BitVec.ofNat 32 (grid0.coords t 1).val) 15#32 = (if t.val % 16 = 15 then 0#1 else 1#1) :=
  (by decide +kernel : ∀ t : Fin grid0.N, _)

section pure
variable (x : FVec Ideal S4x8192x1024 .f32) (g : FVec Ideal S1x1024 .f32) (sc sh : FVec Ideal S4x1x1024 .f32)
  (w : FVec Ideal S2x1024x5632 .bf16) (cw : FVec Ideal S2x3x5632 .f32) (cb : FVec Ideal S2x1x5632 .f32)
  (wd : FVec Ideal S2x2816x1024 .bf16) (gate : FVec Ideal S4x1x1024 .f32) (gp : FVec Ideal S1x1024 .f32)

/-- One half of the convolution, its columns starting at `o`. -/
theorem half_at (E : FVec Ideal S528x1024 .bf16) (v : FVec Ideal S1x1024x2816 .bf16) (b0 w0 w1 w2 : FVec Ideal S1x1x2816 .f32)
    (b : Fin 4) (i : Fin 16) (o : ℕ) (ho : o + 2816 ≤ 5632)
    (hE : ∀ (ρ : Fin 528) (d : Fin 1024), 7 ≤ ρ.val → ρ.val ≤ 520 → E (ix2 ρ d) = padded x g sc sh b (i.val * 512 + (ρ.val - 7)) d)
    (hv : ∀ (d : Fin 1024) (k : Fin 2816), v (ix3 0 d k) = w (ix3 1 d ⟨o + k.val, by omega⟩))
    (hb : ∀ k : Fin 2816, b0 (ix3 0 0 k) = cb (ix3 1 0 ⟨o + k.val, by omega⟩))
    (h0 : ∀ k : Fin 2816, w0 (ix3 0 0 k) = cw (ix3 1 0 ⟨o + k.val, by omega⟩))
    (h1 : ∀ k : Fin 2816, w1 (ix3 0 0 k) = cw (ix3 1 1 ⟨o + k.val, by omega⟩))
    (h2 : ∀ k : Fin 2816, w2 (ix3 0 0 k) = cw (ix3 1 2 ⟨o + k.val, by omega⟩))
    (q : Fin 512) (k : Fin 2816) : k0_pay12 (F := Ideal) E v b0 w0 w1 w2 (ix2 q k)
      = conv x g sc sh w cw cb b (i.val * 512 + q.val) ⟨o + k.val, by omega⟩ := by
  have e0 : (8 + q.val + 528 - 1) % 528 = 7 + q.val := by omega
  have e2 : (8 + q.val + 528 - 527) % 528 = 9 + q.val := by omega
  unfold conv up
  pointwise [k0_pay12]
  simp only [e0, e2, hb, h0, h1, h2, hv]
  simp only [fun d => hE ⟨7 + q.val, by omega⟩ d (by dsimp only; omega) (by dsimp only; omega),
    fun d => hE ⟨8 + q.val, by omega⟩ d (by dsimp only; omega) (by dsimp only; omega),
    fun d => hE ⟨9 + q.val, by omega⟩ d (by dsimp only; omega) (by dsimp only; omega),
    show 7 + q.val - 7 = q.val by omega, show 8 + q.val - 7 = q.val + 1 by omega, show 9 + q.val - 7 = q.val + 2 by omega, Nat.add_assoc]

/-- The gated values are the two halves. -/
theorem gated_at (E : FVec Ideal S528x1024 .bf16) (a : FVec Ideal S512x2816 .f32) (v : FVec Ideal S1x1024x2816 .bf16)
    (b0 w0 w1 w2 : FVec Ideal S1x1x2816 .f32) (q : Fin 512) (k : Fin 2816) :
    k0_pay13 (F := Ideal) E a v b0 w0 w1 w2 (ix2 q k) = gelu (a (ix2 q k)) * k0_pay12 (F := Ideal) E v b0 w0 w1 w2 (ix2 q k) := by
  pointwise [k0_pay13, k0_pay12, gelu]

/-- The block's second product. -/
theorem down_at (s : FVec Ideal S512x2816 .bf16) (v : FVec Ideal S1x2816x1024 .bf16) (q : Fin 512) (d : Fin 1024) :
    k0_pay1 (F := Ideal) s (k0_pay11 (F := Ideal)) v (ix2 q d) = ∑ k : Fin 2816, s (ix2 q k) * v (ix3 0 k d) := by
  pointwise [k0_pay1, k0_pay11]

theorem out_at (X : FVec Ideal S1x512x1024 .f32) (G : FVec Ideal S1x1x1024 .f32) (a : FVec Ideal S512x1024 .f32)
    (p : FVec Ideal S1x1024 .f32) (q : Fin 512) (d : Fin 1024) : k0_pay2 (F := Ideal) X G a p (ix3 0 q d)
      = X (ix3 0 q d) + G (ix3 0 0 d) * (a (ix2 q d)
        * Ideal.rsqrt (Ideal.div (∑ k, a (ix2 q k) * a (ix2 q k)) (Ideal.ofBits FTy.f32 1149239296#32) + Ideal.ofBits FTy.f32 897988541#32)
        * p (ix2 0 d)) := by
  pointwise [k0_pay2]

theorem first_at (i : BitVec 32) (X : FVec Ideal S1x8x1024 .f32) (G : FVec Ideal S1x1024 .f32) (s h : FVec Ideal S1x1x1024 .f32)
    (r : Fin 8) (d : Fin 1024) : k0_pay7 (F := Ideal) (k0_pay3 (F := Ideal) i X G s h) (ix2 r d)
      = Scalar.select (Scalar.cmpi CmpIPredicate.sgt i 0#32)
        (nm (fun k => X (ix3 0 r k)) (fun k => G (ix2 0 k)) (fun k => s (ix3 0 0 k)) (fun k => h (ix3 0 0 k)) d) 0 := by
  pointwise [k0_pay3, k0_pay7, nm]

theorem last_at (i : BitVec 1) (X : FVec Ideal S1x8x1024 .f32) (G : FVec Ideal S1x1024 .f32) (s h : FVec Ideal S1x1x1024 .f32)
    (r : Fin 8) (d : Fin 1024) : k0_pay10 (F := Ideal) (k0_pay6 (F := Ideal) i (k0_pay4 (F := Ideal) X) G (k0_pay5 (F := Ideal) X)
      (FloatOps.ofBits FTy.f32 1149239296#32) s h) (ix2 r d)
      = Scalar.select i
        (nm (fun k => X (ix3 0 r k)) (fun k => G (ix2 0 k)) (fun k => s (ix3 0 0 k)) (fun k => h (ix3 0 0 k)) d) 0 := by
  pointwise [k0_pay10, k0_pay6, k0_pay5, k0_pay4, nm]

theorem main_at (X : FVec Ideal S1x512x1024 .f32) (G : FVec Ideal S1x1024 .f32) (s h : FVec Ideal S1x1x1024 .f32)
    (r : Fin 512) (d : Fin 1024) : k0_pay9 (F := Ideal) (k0_pay8 (F := Ideal) X G) s h (ix2 r d)
      = nm (fun k => X (ix3 0 r k)) (fun k => G (ix2 0 k)) (fun k => s (ix3 0 0 k)) (fun k => h (ix3 0 0 k)) d := by
  pointwise [k0_pay9, k0_pay8, nm]

end pure

variable (m : (ℓ : Loc nD τ sig) → Buf (Elt Ideal) ℓ)

/-- The reference's result of the launch's arguments. -/
abbrev refOf (c : Dev nD) : FVec Ideal S4x8192x1024 .f32 :=
  ref (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

section reads
variable (c : Dev nD) (t : Fin cfg0.N)

theorem r0 (r : Fin 8) (d : Fin 1024) (n : Fin 8192) (h : n.val = (t.val % 16 * 64 - 1) * 8 + r.val) :
    iblk m c 0 t (ix3 0 r d) = m ((c : Thread nD τ).loc main_arg0) (ix3 ⟨t.val / 16, by have := (idx t).1; omega⟩ n d) := by
  blk_ext [iblk, V, idx t]

theorem r1 (q : Fin 512) (d : Fin 1024) (n : Fin 8192) (h : n.val = t.val % 16 * 512 + q.val) :
    iblk m c 1 t (ix3 0 q d) = m ((c : Thread nD τ).loc main_arg0) (ix3 ⟨t.val / 16, by have := (idx t).1; omega⟩ n d) := by
  blk_ext [iblk, V, idx t]

theorem r2 (r : Fin 8) (d : Fin 1024) (n : Fin 8192) (h : n.val = min (t.val % 16 * 64 + 64) 1023 * 8 + r.val) :
    iblk m c 2 t (ix3 0 r d) = m ((c : Thread nD τ).loc main_arg0) (ix3 ⟨t.val / 16, by have := (idx t).1; omega⟩ n d) := by
  blk_ext [iblk, V, idx t]

theorem r3 (d : Fin 1024) : iblk m c 3 t (ix2 0 d) = m ((c : Thread nD τ).loc main_arg1) (ix2 0 d) := by
  blk_ext [iblk, V, idx t]

theorem r4 (d : Fin 1024) : iblk m c 4 t (ix3 0 0 d) = m ((c : Thread nD τ).loc main_arg2) (ix3 ⟨t.val / 16, by have := (idx t).1; omega⟩ 0 d) := by
  blk_ext [iblk, V, idx t]

theorem r5 (d : Fin 1024) : iblk m c 5 t (ix3 0 0 d) = m ((c : Thread nD τ).loc main_arg3) (ix3 ⟨t.val / 16, by have := (idx t).1; omega⟩ 0 d) := by
  blk_ext [iblk, V, idx t]

theorem r6 (d : Fin 1024) (k : Fin 2816) : iblk m c 6 t (ix3 0 d k) = m ((c : Thread nD τ).loc main_arg4) (ix3 1 d ⟨0 + k.val, by omega⟩) := by
  blk_ext [iblk, V, idx t]

theorem r7 (d : Fin 1024) (k : Fin 2816) : iblk m c 7 t (ix3 0 d k) = m ((c : Thread nD τ).loc main_arg4) (ix3 1 d ⟨2816 + k.val, by omega⟩) := by
  blk_ext [iblk, V, idx t]

theorem r8 (j : Fin 3) (k : Fin 2816) : iblk m c 8 t (ix3 0 j k) = m ((c : Thread nD τ).loc main_arg5) (ix3 1 j ⟨0 + k.val, by omega⟩) := by
  blk_ext [iblk, V, idx t]

theorem r9 (j : Fin 3) (k : Fin 2816) : iblk m c 9 t (ix3 0 j k) = m ((c : Thread nD τ).loc main_arg5) (ix3 1 j ⟨2816 + k.val, by omega⟩) := by
  blk_ext [iblk, V, idx t]

theorem r10 (k : Fin 2816) : iblk m c 10 t (ix3 0 0 k) = m ((c : Thread nD τ).loc main_arg6) (ix3 1 0 ⟨0 + k.val, by omega⟩) := by
  blk_ext [iblk, V, idx t]

theorem r11 (k : Fin 2816) : iblk m c 11 t (ix3 0 0 k) = m ((c : Thread nD τ).loc main_arg6) (ix3 1 0 ⟨2816 + k.val, by omega⟩) := by
  blk_ext [iblk, V, idx t]

theorem r12 (k : Fin 2816) (d : Fin 1024) : iblk m c 12 t (ix3 0 k d) = m ((c : Thread nD τ).loc main_arg7) (ix3 1 k d) := by
  blk_ext [iblk, V, idx t]

theorem r13 (d : Fin 1024) : iblk m c 13 t (ix3 0 0 d) = m ((c : Thread nD τ).loc main_arg8) (ix3 ⟨t.val / 16, by have := (idx t).1; omega⟩ 0 d) := by
  blk_ext [iblk, V, idx t]

theorem r14 (d : Fin 1024) : iblk m c 14 t (ix2 0 d) = m ((c : Thread nD τ).loc main_arg9) (ix2 0 d) := by
  blk_ext [iblk, V, idx t]

end reads

/-- The modulated rows of the launch, padded. -/
abbrev pad (c : Dev nD) := padded (m ((c : Thread nD τ).loc main_arg0)) (m ((c : Thread nD τ).loc main_arg1))
  (m ((c : Thread nD τ).loc main_arg2)) (m ((c : Thread nD τ).loc main_arg3))

/-- The scratch's three pieces cover it. -/
theorem cover (P : FVec Ideal S8x1024 .bf16) (Q : FVec Ideal S512x1024 .bf16) (R : FVec Ideal S8x1024 .bf16) (y : S528x1024.Idx) :
    ∃ p ∈ ([⟨Rect.unit ![520, 0] ![8, 1024] inb_S528x1024_S8x1024_520_0, P⟩, ⟨Rect.unit ![8, 0] ![512, 1024] inb_S528x1024_S512x1024_8_0, Q⟩,
      ⟨Rect.unit ![0, 0] ![8, 1024] inb_S528x1024_S8x1024_0_0, R⟩] : List (View.Piece (Elt Ideal) S528x1024 .bf16)), y ∈ p.1.set := by
  have b0 : (y 0).val < 528 := (y 0).isLt
  have b1 : (y 1).val < 1024 := (y 1).isLt
  by_cases h0 : (y 0).val < 8
  · exact ⟨⟨Rect.unit ![0, 0] ![8, 1024] inb_S528x1024_S8x1024_0_0, R⟩,
      List.mem_cons_of_mem _ (List.mem_cons_of_mem _ List.mem_cons_self), (Rect.mem_set_unit (inb := inb_S528x1024_S8x1024_0_0)).2 (Fin.forall_fin_two.2
      ⟨⟨Nat.zero_le _, by show _ < 0 + 8; omega⟩, Nat.zero_le _, by show _ < 0 + 1024; omega⟩)⟩
  by_cases h1 : (y 0).val < 520
  · exact ⟨⟨Rect.unit ![8, 0] ![512, 1024] inb_S528x1024_S512x1024_8_0, Q⟩, List.mem_cons_of_mem _ List.mem_cons_self, (Rect.mem_set_unit (inb := inb_S528x1024_S512x1024_8_0)).2 (Fin.forall_fin_two.2
      ⟨⟨by show 8 ≤ _; omega, by show _ < 8 + 512; omega⟩, Nat.zero_le _, by show _ < 0 + 1024; omega⟩)⟩
  · exact ⟨⟨Rect.unit ![520, 0] ![8, 1024] inb_S528x1024_S8x1024_520_0, P⟩, List.mem_cons_self, (Rect.mem_set_unit (inb := inb_S528x1024_S8x1024_520_0)).2 (Fin.forall_fin_two.2
      ⟨⟨by show 520 ≤ _; omega, by show _ < 520 + 8; omega⟩, Nat.zero_le _, by show _ < 0 + 1024; omega⟩)⟩

/-- A tap of a block, read as one row. -/
theorem tap (B : Vec Ideal S1x3x2816 .f32) (j : Fin 3) (inb : ∀ a, ![0, j.val, 0] a + ![1, 1, 2816] a ≤ S1x3x2816.size a) (k : Fin 2816) :
    View.ld B (Rect.unit ![0, j.val, 0] ![1, 1, 2816] inb) (ix3 0 0 k) = B (ix3 0 j k) := by
  refine congrArg B (funext fun a => Fin.ext ?_)
  fin_cases a
  · rfl
  · rfl
  · show 0 + 1 * k.val = k.val
    omega

theorem nm_congr {X X' g g' s s' h h' : Fin 1024 → EReal} (eX : ∀ k, X k = X' k) (eg : ∀ k, g k = g' k) (es : ∀ k, s k = s' k)
    (eh : ∀ k, h k = h' k) (d : Fin 1024) : nm X g s h d = nm X' g' s' h' d := by
  rw [funext eX, funext eg, funext es, funext eh]

theorem pad_in (c : Dev nD) (b : Fin 4) (n : ℕ) (p : 1 ≤ n ∧ n ≤ 8192) (d : Fin 1024) : pad m c b n d
    = nm (fun k => m ((c : Thread nD τ).loc main_arg0) (ix3 b ⟨n - 1, by omega⟩ k)) (fun k => m ((c : Thread nD τ).loc main_arg1) (ix2 0 k))
      (fun k => m ((c : Thread nD τ).loc main_arg2) (ix3 b 0 k)) (fun k => m ((c : Thread nD τ).loc main_arg3) (ix3 b 0 k)) d :=
  dif_pos p

theorem pad_out (c : Dev nD) (b : Fin 4) (n : ℕ) (p : ¬ (1 ≤ n ∧ n ≤ 8192)) (d : Fin 1024) : pad m c b n d = 0 := dif_neg p

/-- The row after the block's own. -/
theorem last_row (c : Dev nD) (t : Fin cfg0.N) (r : Fin 8) (hr : r.val = 0) (d : Fin 1024) :
    k0_pay10 (F := Ideal) (k0_pay6 (F := Ideal) (Scalar.cmpi CmpIPredicate.slt (BitVec.ofNat 32 (grid0.coords t 1).val) 15#32)
      (k0_pay4 (F := Ideal) (iblk m c 2 t)) (iblk m c 3 t) (k0_pay5 (F := Ideal) (iblk m c 2 t)) (FloatOps.ofBits FTy.f32 1149239296#32)
      (iblk m c 4 t) (iblk m c 5 t)) (ix2 r d) = pad m c ⟨t.val / 16, by have := (idx t).1; omega⟩ (t.val % 16 * 512 + 513) d := by
  have hb : t.val % 16 < 16 := Nat.mod_lt _ (by decide)
  refine (last_at _ _ _ _ _ r d).trans ?_
  rw [(masks t).2]
  by_cases h : t.val % 16 = 15
  · rw [if_pos h, pad_out m c _ _ (by omega)]
    rfl
  · rw [if_neg h, pad_in m c _ _ (by omega)]
    refine nm_congr (fun k => r2 m c t r k _ ?_) (r3 m c t) (r4 m c t) (r5 m c t) d
    dsimp only
    omega

/-- The block's own rows. -/
theorem main_row (c : Dev nD) (t : Fin cfg0.N) (r : Fin 512) (d : Fin 1024) :
    k0_pay9 (F := Ideal) (k0_pay8 (F := Ideal) (iblk m c 1 t) (iblk m c 3 t)) (iblk m c 4 t) (iblk m c 5 t) (ix2 r d)
      = pad m c ⟨t.val / 16, by have := (idx t).1; omega⟩ (t.val % 16 * 512 + (r.val + 1)) d := by
  have hb : t.val % 16 < 16 := Nat.mod_lt _ (by decide)
  refine (main_at _ _ _ _ r d).trans ?_
  rw [pad_in m c _ _ (by omega)]
  refine nm_congr (fun k => r1 m c t r k _ ?_) (r3 m c t) (r4 m c t) (r5 m c t) d
  dsimp only
  omega

/-- The row before the block's own. -/
theorem first_row (c : Dev nD) (t : Fin cfg0.N) (r : Fin 8) (hr : r.val = 7) (d : Fin 1024) :
    k0_pay7 (F := Ideal) (k0_pay3 (F := Ideal) (BitVec.ofNat 32 (grid0.coords t 1).val) (iblk m c 0 t) (iblk m c 3 t) (iblk m c 4 t)
      (iblk m c 5 t)) (ix2 r d) = pad m c ⟨t.val / 16, by have := (idx t).1; omega⟩ (t.val % 16 * 512) d := by
  have hb : t.val % 16 < 16 := Nat.mod_lt _ (by decide)
  refine (first_at _ _ _ _ _ r d).trans ?_
  rw [(masks t).1]
  by_cases h : t.val % 16 = 0
  · rw [if_pos h, pad_out m c _ _ (by omega)]
    rfl
  · rw [if_neg h, pad_in m c _ _ (by omega)]
    refine nm_congr (fun k => r0 m c t r k _ ?_) (r3 m c t) (r4 m c t) (r5 m c t) d
    dsimp only
    omega

/-- The block after point `t`, over what the scratch held: the modulated rows around the block's own. -/
theorem block (c : Dev nD) (t : Fin cfg0.N) : ∃ E : FVec Ideal S528x1024 .bf16,
    (∀ (ρ : Fin 528) (d : Fin 1024), 7 ≤ ρ.val → ρ.val ≤ 520 →
      E (ix2 ρ d) = pad m c ⟨t.val / 16, by have := (idx t).1; omega⟩ (t.val % 16 * 512 + (ρ.val - 7)) d)
    ∧ outsAt0 m c t = k0_pay2 (F := Ideal) (iblk m c 1 t) (iblk m c 13 t)
      (k0_pay1 (F := Ideal)
        (k0_pay13 (F := Ideal) E
          (k0_pay12 (F := Ideal) E (iblk m c 6 t) (iblk m c 10 t)
            (View.ld (iblk m c 8 t) (Rect.unit ![0, 0, 0] ![1, 1, 2816] inb_S1x3x2816_S1x1x2816_0_0_0))
            (View.ld (iblk m c 8 t) (Rect.unit ![0, 1, 0] ![1, 1, 2816] inb_S1x3x2816_S1x1x2816_0_1_0))
            (View.ld (iblk m c 8 t) (Rect.unit ![0, 2, 0] ![1, 1, 2816] inb_S1x3x2816_S1x1x2816_0_2_0)))
          (iblk m c 7 t) (iblk m c 11 t)
          (View.ld (iblk m c 9 t) (Rect.unit ![0, 0, 0] ![1, 1, 2816] inb_S1x3x2816_S1x1x2816_0_0_0))
          (View.ld (iblk m c 9 t) (Rect.unit ![0, 1, 0] ![1, 1, 2816] inb_S1x3x2816_S1x1x2816_0_1_0))
          (View.ld (iblk m c 9 t) (Rect.unit ![0, 2, 0] ![1, 1, 2816] inb_S1x3x2816_S1x1x2816_0_2_0)))
        (k0_pay11 (F := Ideal)) (iblk m c 12 t))
      (iblk m c 14 t) := by
  unfold outsAt0
  frame_out
  refine ⟨_, ?_, rfl⟩
  intro ρ d hl hu
  rw [View.readCov_eq_canon']
  canon_tiles x h using cover _ _ _ _
  all_goals
    obtain ⟨r, e, rfl⟩ : ∃ (r : Fin _) (e : Fin 1024), x = ix2 r e := ⟨_, _, eq_ix2 x⟩
    obtain rfl : d = e := Fin.ext (by simpa using h1)
    simp at h0
  · rw [last_row m c t r (by omega)]
    congr 1
    omega
  · rw [main_row m c t r]
    congr 1
    omega
  · rw [first_row m c t r (by omega)]
    congr 1
    omega

/-- Every element of the block is the reference's. -/
theorem block_at (c : Dev nD) (t : Fin cfg0.N) (q : Fin 512) (d : Fin 1024) (n : Fin 8192) (hn : n.val = t.val % 16 * 512 + q.val) :
    outsAt0 m c t (ix3 0 q d) = refOf m c (ix3 ⟨t.val / 16, by have := (idx t).1; omega⟩ n d) := by
  obtain ⟨E, hE, he⟩ := block m c t
  have hb : t.val % 16 < 16 := Nat.mod_lt _ (by decide)
  rw [he]
  refine (out_at _ _ _ _ q d).trans (Eq.trans ?_ (ref_at _ _ _ _ _ _ _ _ _ _ _ n d).symm)
  have ha := half_at _ _ _ _ _ _ _ E (iblk m c 6 t) (iblk m c 10 t)
    (View.ld (iblk m c 8 t) (Rect.unit ![0, 0, 0] ![1, 1, 2816] inb_S1x3x2816_S1x1x2816_0_0_0))
    (View.ld (iblk m c 8 t) (Rect.unit ![0, 1, 0] ![1, 1, 2816] inb_S1x3x2816_S1x1x2816_0_1_0))
    (View.ld (iblk m c 8 t) (Rect.unit ![0, 2, 0] ![1, 1, 2816] inb_S1x3x2816_S1x1x2816_0_2_0))
    ⟨t.val / 16, by have := (idx t).1; omega⟩ ⟨t.val % 16, hb⟩ 0 (by omega) hE (r6 m c t) (r10 m c t)
    (fun k => (tap _ 0 _ k).trans (r8 m c t 0 k)) (fun k => (tap _ 1 _ k).trans (r8 m c t 1 k)) (fun k => (tap _ 2 _ k).trans (r8 m c t 2 k)) q
  have hg := half_at _ _ _ _ _ _ _ E (iblk m c 7 t) (iblk m c 11 t)
    (View.ld (iblk m c 9 t) (Rect.unit ![0, 0, 0] ![1, 1, 2816] inb_S1x3x2816_S1x1x2816_0_0_0))
    (View.ld (iblk m c 9 t) (Rect.unit ![0, 1, 0] ![1, 1, 2816] inb_S1x3x2816_S1x1x2816_0_1_0))
    (View.ld (iblk m c 9 t) (Rect.unit ![0, 2, 0] ![1, 1, 2816] inb_S1x3x2816_S1x1x2816_0_2_0))
    ⟨t.val / 16, by have := (idx t).1; omega⟩ ⟨t.val % 16, hb⟩ 2816 (by omega) hE (r7 m c t) (r11 m c t)
    (fun k => (tap _ 0 _ k).trans (r9 m c t 0 k)) (fun k => (tap _ 1 _ k).trans (r9 m c t 1 k)) (fun k => (tap _ 2 _ k).trans (r9 m c t 2 k)) q
  have hs : ∀ e : Fin 1024, k0_pay1 (F := Ideal)
      (k0_pay13 (F := Ideal) E
        (k0_pay12 (F := Ideal) E (iblk m c 6 t) (iblk m c 10 t)
          (View.ld (iblk m c 8 t) (Rect.unit ![0, 0, 0] ![1, 1, 2816] inb_S1x3x2816_S1x1x2816_0_0_0))
          (View.ld (iblk m c 8 t) (Rect.unit ![0, 1, 0] ![1, 1, 2816] inb_S1x3x2816_S1x1x2816_0_1_0))
          (View.ld (iblk m c 8 t) (Rect.unit ![0, 2, 0] ![1, 1, 2816] inb_S1x3x2816_S1x1x2816_0_2_0)))
        (iblk m c 7 t) (iblk m c 11 t)
        (View.ld (iblk m c 9 t) (Rect.unit ![0, 0, 0] ![1, 1, 2816] inb_S1x3x2816_S1x1x2816_0_0_0))
        (View.ld (iblk m c 9 t) (Rect.unit ![0, 1, 0] ![1, 1, 2816] inb_S1x3x2816_S1x1x2816_0_1_0))
        (View.ld (iblk m c 9 t) (Rect.unit ![0, 2, 0] ![1, 1, 2816] inb_S1x3x2816_S1x1x2816_0_2_0)))
      (k0_pay11 (F := Ideal)) (iblk m c 12 t) (ix2 q e) = down (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        ⟨t.val / 16, by have := (idx t).1; omega⟩ n.val e := by
    intro e
    rw [hn]
    refine (down_at _ _ q e).trans (Finset.sum_congr rfl fun k _ => ?_)
    refine Ideal.mul_congr ?_ (r12 m c t k e)
    refine (gated_at _ _ _ _ _ _ _ q k).trans (Ideal.mul_congr (congrArg gelu ((ha k).trans ?_)) (hg k))
    simp only [Nat.zero_add]
  simp only [hs]
  rw [r1 m c t q d n hn, r13 m c t d, r14 m c t d]
  rfl

/-- The result array after the run. -/
theorem final (c : Dev nD) : (dats m 0 c).arrAt 15 (cfgs 0).N = refOf m c := by
  refine (dats m 0 c).arrAt_eq_of_covers 15 _ (by decide +kernel) fun t hf y => ?_
  blk_simp
  rw [after0_15]
  have hb : t.val % 16 < 16 := Nat.mod_lt _ (by decide)
  obtain ⟨e, q, d, rfl⟩ : ∃ (e : Fin 1) (q : Fin 512) (d : Fin 1024), y = ix3 e q d := ⟨_, _, _, eq_ix3 y⟩
  obtain rfl : e = 0 := Subsingleton.elim _ _
  refine (block_at m c t q d ⟨t.val % 16 * 512 + q.val, by omega⟩ rfl).trans ?_
  blk_ext [idx t]

end Cert.Ffn
-- ==== Proof.FfnClaim.lean ====
module

public import proofs.«01_k».proof.Defs
public import proofs.«01_k».proof.Proof.Ffn
public import Idealize.ShloMosaic.Lib.Claim

/-! The channel mixer's value claim, from the two runs. -/

@[expose] public section

set_option maxRecDepth 16384

noncomputable section

namespace Cert.Ffn

open Idealize.ShloMosaic Idealize.SL.Sem

/-- The reference's result in the kernel's arguments. -/
theorem res_eq (m : (ℓ : Loc Cert.Kernel2Ideal.nD Cert.Kernel2Ideal.τ Cert.Kernel2Ideal.sig) → Buf (Elt Ideal) ℓ)
    (V : Valuation Cert.Reference2Ideal.τ Cert.Reference2Ideal.sig (Elt Ideal)) (c : Dev Cert.Kernel2Ideal.nD)
    (e0 : V (Proc.devRef .tc Cert.Reference2Ideal.main_arg0) = m ((c.tc : Thread Cert.Kernel2Ideal.nD Cert.Kernel2Ideal.τ).loc Cert.Kernel2Ideal.main_arg0))
    (e1 : V (Proc.devRef .tc Cert.Reference2Ideal.main_arg1) = m ((c.tc : Thread Cert.Kernel2Ideal.nD Cert.Kernel2Ideal.τ).loc Cert.Kernel2Ideal.main_arg1))
    (e2 : V (Proc.devRef .tc Cert.Reference2Ideal.main_arg2) = m ((c.tc : Thread Cert.Kernel2Ideal.nD Cert.Kernel2Ideal.τ).loc Cert.Kernel2Ideal.main_arg2))
    (e3 : V (Proc.devRef .tc Cert.Reference2Ideal.main_arg3) = m ((c.tc : Thread Cert.Kernel2Ideal.nD Cert.Kernel2Ideal.τ).loc Cert.Kernel2Ideal.main_arg3))
    (e4 : V (Proc.devRef .tc Cert.Reference2Ideal.main_arg4) = m ((c.tc : Thread Cert.Kernel2Ideal.nD Cert.Kernel2Ideal.τ).loc Cert.Kernel2Ideal.main_arg4))
    (e5 : V (Proc.devRef .tc Cert.Reference2Ideal.main_arg5) = m ((c.tc : Thread Cert.Kernel2Ideal.nD Cert.Kernel2Ideal.τ).loc Cert.Kernel2Ideal.main_arg5))
    (e6 : V (Proc.devRef .tc Cert.Reference2Ideal.main_arg6) = m ((c.tc : Thread Cert.Kernel2Ideal.nD Cert.Kernel2Ideal.τ).loc Cert.Kernel2Ideal.main_arg6))
    (e7 : V (Proc.devRef .tc Cert.Reference2Ideal.main_arg7) = m ((c.tc : Thread Cert.Kernel2Ideal.nD Cert.Kernel2Ideal.τ).loc Cert.Kernel2Ideal.main_arg7))
    (e8 : V (Proc.devRef .tc Cert.Reference2Ideal.main_arg8) = m ((c.tc : Thread Cert.Kernel2Ideal.nD Cert.Kernel2Ideal.τ).loc Cert.Kernel2Ideal.main_arg8))
    (e9 : V (Proc.devRef .tc Cert.Reference2Ideal.main_arg9) = m ((c.tc : Thread Cert.Kernel2Ideal.nD Cert.Kernel2Ideal.τ).loc Cert.Kernel2Ideal.main_arg9)) :
    outArr (V (Proc.devRef .tc Cert.Reference2Ideal.main_arg0)) (Cert.Reference2Ideal.Value.res_main_v71 V)
      (V (Proc.devRef .tc Cert.Reference2Ideal.main_arg8)) (V (Proc.devRef .tc Cert.Reference2Ideal.main_arg9)) = refOf m c := by
  refine (run_ref V).trans ?_
  rw [e0, e1, e2, e3, e4, e5, e6, e7, e8, e9]

/-- The channel mixer's result is the reference's. -/
theorem algebraic : Cert.algebraic_Kernel2Ideal_Reference2Ideal := by
  intro m g m' g' hpre hagree
  refine ⟨fun c => refOf m c, ?_, ?_⟩
  · exact (θ_run _ _ _).mono (fun r h c => ⟨(h c).1.trans (final m c), (h c).2⟩) (Cert.Kernel2Ideal.Value.run_blocks m g)
  · refine (θ_run _ _ _).mono (fun r h c => ⟨(h c).1.trans ?_, (h c).2⟩) (Cert.Reference2Ideal.Value.run m' g')
    obtain ⟨e0, e1, e2, e3, e4, e5, e6, e7, e8, e9⟩ := hagree c
    exact res_eq m _ c e0 e1 e2 e3 e4 e5 e6 e7 e8 e9

end Cert.Ffn
-- ==== Proof.MergeRef.lean ====
module

public import proofs.«01_k».proof.Proof.FfnRef
public import proofs.«01_k».proof.Proof.Gen.Reference4Ideal.Run

/-! The merge of the three mixers as mathematics, and the reference read element by element. -/

@[expose] public section

set_option maxRecDepth 16384

noncomputable section

namespace Cert.Merge

open Idealize.ShloMosaic Idealize.ShloMosaic.TcCoe Idealize.SL.Sem
open Cert.Reference4Ideal Cert.Reference4Ideal.Gen

/-- The sum of `2 h` consecutive rows around row `n`: `h` before it, itself and `h - 1` after. -/
def tot (f : ℕ → EReal) (n h : ℕ) : EReal := ∑ k ∈ Finset.range (2 * h), f (n - h + k)

theorem tot_one (f : ℕ → EReal) (n : ℕ) (hn : 1 ≤ n) : tot f n 1 = f n + f (n - 1) := by
  unfold tot
  rw [show 2 * 1 = 2 from rfl, Finset.sum_range_succ, Finset.sum_range_one, Nat.add_zero, Nat.sub_add_cancel hn, add_comm]

/-- A window is two of half its width. -/
theorem tot_two (f : ℕ → EReal) (n h : ℕ) (hn : 2 * h ≤ n) : tot f n (2 * h) = tot f (n - h) h + tot f (n + h) h := by
  unfold tot
  rw [two_mul (2 * h), Finset.sum_range_add]
  congr 1
  · exact Finset.sum_congr rfl fun k _ => congrArg f (by omega)
  · exact Finset.sum_congr rfl fun k _ => congrArg f (by omega)

/-- How many rows of a window of half width `h` around row `t` there are. -/
def cnt (t h : BitVec 32) : EReal :=
  FloatOps.sitofp (F := Ideal) FTy.f32 (IntOp.subi (IntOp.minsi (IntOp.addi t h) 8192#32) (IntOp.maxsi (IntOp.subi t h) 0#32))

/-- Row `n - 16` of a column of the pooled values, zero outside. -/
def lane (z : FVec Ideal S4x8192x3072 .bf16) (b : Fin 4) (j : Fin 512) (n : ℕ) : EReal :=
  if p : 16 ≤ n ∧ n < 8208 then z (ix3 b ⟨n - 16, by omega⟩ ⟨1536 + j.val, by omega⟩) else 0

/-- The half width of a group of columns. -/
def half (g : ℕ) : ℕ := 2 ^ g

/-- A row's window mean less the row. -/
def diff (z : FVec Ideal S4x8192x3072 .bf16) (b : Fin 4) (t : ℕ) (g : Fin 4) (l : Fin 128) : EReal :=
  Ideal.div (tot (lane z b ⟨g.val * 128 + l.val, by omega⟩) (t + 16) (half g.val)) (cnt (BitVec.ofNat 32 t) (BitVec.ofNat 32 (half g.val)))
    - lane z b ⟨g.val * 128 + l.val, by omega⟩ (t + 16)

/-- The pooling mixer's output. -/
def pool (z : FVec Ideal S4x8192x3072 .bf16) (pw : FVec Ideal S2x4x128x128 .bf16) (psc : FVec Ideal S1x512 .f32) (b : Fin 4) (t : ℕ)
    (j : Fin 512) : EReal :=
  (∑ l : Fin 128, diff z b t ⟨j.val / 128, by omega⟩ l * pw (ix4 0 ⟨j.val / 128, by omega⟩ l ⟨j.val % 128, by omega⟩)) * psc (ix2 0 j)

section ref
variable (b : Fin 4) (t : Fin 8192) (l : Fin 128) (a : FVec Ideal S4x8192x128 .f32) (f : ℕ → EReal)

/-- The reference's window mean of 2 rows, less the row itself. -/
def diff2 (u : FVec Ideal S4x8194x128 .f32) (a : FVec Ideal S4x8192x128 .f32) : FVec Ideal S4x8192x128 .f32 :=
  subf (Host.divf (addf (addf (broadcastInDim S4x8192x128 ![] bcast_S_S4x8192x128 (constant S_ .f32 0x00000000#32)) (extractStridedSlice S4x8192x128 ![0, 0, 0] u slices_S4x8194x128_S4x8192x128_0_0_0)) (extractStridedSlice S4x8192x128 ![0, 1, 0] u slices_S4x8194x128_S4x8192x128_0_1_0)) (broadcastInDim S4x8192x128 ![0, 1, 2] bcast_S1x8192x1_S4x8192x128_0_1_2 (broadcastInDim S1x8192x1 ![1] bcast_S8192_S1x8192x1_1 (sitofp .f32 (subi (minsi (addi (iotaInDim S8192 32 0) (broadcastInDim S8192 ![] bcast_S_S8192 (constantI S_ 32 1#32))) (broadcastInDim S8192 ![] bcast_S_S8192 (constantI S_ 32 8192#32))) (maxsi (subi (iotaInDim S8192 32 0) (broadcastInDim S8192 ![] bcast_S_S8192 (constantI S_ 32 1#32))) (broadcastInDim S8192 ![] bcast_S_S8192 (constantI S_ 32 0#32)))))))) a

/-- The reference's window mean of 4 rows, less the row itself. -/
def diff4 (u : FVec Ideal S4x8196x128 .f32) (a : FVec Ideal S4x8192x128 .f32) : FVec Ideal S4x8192x128 .f32 :=
  subf (Host.divf (addf (addf (addf (addf (broadcastInDim S4x8192x128 ![] bcast_S_S4x8192x128 (constant S_ .f32 0x00000000#32)) (extractStridedSlice S4x8192x128 ![0, 0, 0] u slices_S4x8196x128_S4x8192x128_0_0_0)) (extractStridedSlice S4x8192x128 ![0, 1, 0] u slices_S4x8196x128_S4x8192x128_0_1_0)) (extractStridedSlice S4x8192x128 ![0, 2, 0] u slices_S4x8196x128_S4x8192x128_0_2_0)) (extractStridedSlice S4x8192x128 ![0, 3, 0] u slices_S4x8196x128_S4x8192x128_0_3_0)) (broadcastInDim S4x8192x128 ![0, 1, 2] bcast_S1x8192x1_S4x8192x128_0_1_2 (broadcastInDim S1x8192x1 ![1] bcast_S8192_S1x8192x1_1 (sitofp .f32 (subi (minsi (addi (iotaInDim S8192 32 0) (broadcastInDim S8192 ![] bcast_S_S8192 (constantI S_ 32 2#32))) (broadcastInDim S8192 ![] bcast_S_S8192 (constantI S_ 32 8192#32))) (maxsi (subi (iotaInDim S8192 32 0) (broadcastInDim S8192 ![] bcast_S_S8192 (constantI S_ 32 2#32))) (broadcastInDim S8192 ![] bcast_S_S8192 (constantI S_ 32 0#32)))))))) a

/-- The reference's window mean of 8 rows, less the row itself. -/
def diff8 (u : FVec Ideal S4x8200x128 .f32) (a : FVec Ideal S4x8192x128 .f32) : FVec Ideal S4x8192x128 .f32 :=
  subf (Host.divf (addf (addf (addf (addf (addf (addf (addf (addf (broadcastInDim S4x8192x128 ![] bcast_S_S4x8192x128 (constant S_ .f32 0x00000000#32)) (extractStridedSlice S4x8192x128 ![0, 0, 0] u slices_S4x8200x128_S4x8192x128_0_0_0)) (extractStridedSlice S4x8192x128 ![0, 1, 0] u slices_S4x8200x128_S4x8192x128_0_1_0)) (extractStridedSlice S4x8192x128 ![0, 2, 0] u slices_S4x8200x128_S4x8192x128_0_2_0)) (extractStridedSlice S4x8192x128 ![0, 3, 0] u slices_S4x8200x128_S4x8192x128_0_3_0)) (extractStridedSlice S4x8192x128 ![0, 4, 0] u slices_S4x8200x128_S4x8192x128_0_4_0)) (extractStridedSlice S4x8192x128 ![0, 5, 0] u slices_S4x8200x128_S4x8192x128_0_5_0)) (extractStridedSlice S4x8192x128 ![0, 6, 0] u slices_S4x8200x128_S4x8192x128_0_6_0)) (extractStridedSlice S4x8192x128 ![0, 7, 0] u slices_S4x8200x128_S4x8192x128_0_7_0)) (broadcastInDim S4x8192x128 ![0, 1, 2] bcast_S1x8192x1_S4x8192x128_0_1_2 (broadcastInDim S1x8192x1 ![1] bcast_S8192_S1x8192x1_1 (sitofp .f32 (subi (minsi (addi (iotaInDim S8192 32 0) (broadcastInDim S8192 ![] bcast_S_S8192 (constantI S_ 32 4#32))) (broadcastInDim S8192 ![] bcast_S_S8192 (constantI S_ 32 8192#32))) (maxsi (subi (iotaInDim S8192 32 0) (broadcastInDim S8192 ![] bcast_S_S8192 (constantI S_ 32 4#32))) (broadcastInDim S8192 ![] bcast_S_S8192 (constantI S_ 32 0#32)))))))) a

/-- The reference's window mean of 16 rows, less the row itself. -/
def diff16 (u : FVec Ideal S4x8208x128 .f32) (a : FVec Ideal S4x8192x128 .f32) : FVec Ideal S4x8192x128 .f32 :=
  subf (Host.divf (addf (addf (addf (addf (addf (addf (addf (addf (addf (addf (addf (addf (addf (addf (addf (addf (broadcastInDim S4x8192x128 ![] bcast_S_S4x8192x128 (constant S_ .f32 0x00000000#32)) (extractStridedSlice S4x8192x128 ![0, 0, 0] u slices_S4x8208x128_S4x8192x128_0_0_0)) (extractStridedSlice S4x8192x128 ![0, 1, 0] u slices_S4x8208x128_S4x8192x128_0_1_0)) (extractStridedSlice S4x8192x128 ![0, 2, 0] u slices_S4x8208x128_S4x8192x128_0_2_0)) (extractStridedSlice S4x8192x128 ![0, 3, 0] u slices_S4x8208x128_S4x8192x128_0_3_0)) (extractStridedSlice S4x8192x128 ![0, 4, 0] u slices_S4x8208x128_S4x8192x128_0_4_0)) (extractStridedSlice S4x8192x128 ![0, 5, 0] u slices_S4x8208x128_S4x8192x128_0_5_0)) (extractStridedSlice S4x8192x128 ![0, 6, 0] u slices_S4x8208x128_S4x8192x128_0_6_0)) (extractStridedSlice S4x8192x128 ![0, 7, 0] u slices_S4x8208x128_S4x8192x128_0_7_0)) (extractStridedSlice S4x8192x128 ![0, 8, 0] u slices_S4x8208x128_S4x8192x128_0_8_0)) (extractStridedSlice S4x8192x128 ![0, 9, 0] u slices_S4x8208x128_S4x8192x128_0_9_0)) (extractStridedSlice S4x8192x128 ![0, 10, 0] u slices_S4x8208x128_S4x8192x128_0_10_0)) (extractStridedSlice S4x8192x128 ![0, 11, 0] u slices_S4x8208x128_S4x8192x128_0_11_0)) (extractStridedSlice S4x8192x128 ![0, 12, 0] u slices_S4x8208x128_S4x8192x128_0_12_0)) (extractStridedSlice S4x8192x128 ![0, 13, 0] u slices_S4x8208x128_S4x8192x128_0_13_0)) (extractStridedSlice S4x8192x128 ![0, 14, 0] u slices_S4x8208x128_S4x8192x128_0_14_0)) (extractStridedSlice S4x8192x128 ![0, 15, 0] u slices_S4x8208x128_S4x8192x128_0_15_0)) (broadcastInDim S4x8192x128 ![0, 1, 2] bcast_S1x8192x1_S4x8192x128_0_1_2 (broadcastInDim S1x8192x1 ![1] bcast_S8192_S1x8192x1_1 (sitofp .f32 (subi (minsi (addi (iotaInDim S8192 32 0) (broadcastInDim S8192 ![] bcast_S_S8192 (constantI S_ 32 8#32))) (broadcastInDim S8192 ![] bcast_S_S8192 (constantI S_ 32 8192#32))) (maxsi (subi (iotaInDim S8192 32 0) (broadcastInDim S8192 ![] bcast_S_S8192 (constantI S_ 32 8#32))) (broadcastInDim S8192 ![] bcast_S_S8192 (constantI S_ 32 0#32)))))))) a

theorem diff2_at (u : FVec Ideal S4x8194x128 .f32) (hu : ∀ n : Fin 8194, u (ix3 b n l) = f (n.val + 15)) :
    diff2 u a (ix3 b t l) = Ideal.div (tot f (t.val + 16) 1) (cnt (BitVec.ofNat 32 t.val) 1#32) - a (ix3 b t l) := by
  pointwise [diff2]
  simp only [hu, tot, Finset.sum_range_succ, show t.val + 16 - 1 = t.val + 15 by omega, Finset.range_zero, Finset.sum_empty, zero_add,
    Nat.add_zero, cnt, Nat.add_comm, Nat.add_left_comm]

theorem diff4_at (u : FVec Ideal S4x8196x128 .f32) (hu : ∀ n : Fin 8196, u (ix3 b n l) = f (n.val + 14)) :
    diff4 u a (ix3 b t l) = Ideal.div (tot f (t.val + 16) 2) (cnt (BitVec.ofNat 32 t.val) 2#32) - a (ix3 b t l) := by
  pointwise [diff4]
  simp only [hu, tot, Finset.sum_range_succ, show t.val + 16 - 2 = t.val + 14 by omega, Finset.range_zero, Finset.sum_empty, zero_add,
    Nat.add_zero, cnt, Nat.add_comm, Nat.add_left_comm]

theorem diff8_at (u : FVec Ideal S4x8200x128 .f32) (hu : ∀ n : Fin 8200, u (ix3 b n l) = f (n.val + 12)) :
    diff8 u a (ix3 b t l) = Ideal.div (tot f (t.val + 16) 4) (cnt (BitVec.ofNat 32 t.val) 4#32) - a (ix3 b t l) := by
  pointwise [diff8]
  simp only [hu, tot, Finset.sum_range_succ, show t.val + 16 - 4 = t.val + 12 by omega, Finset.range_zero, Finset.sum_empty, zero_add,
    Nat.add_zero, cnt, Nat.add_comm, Nat.add_left_comm]

theorem diff16_at (u : FVec Ideal S4x8208x128 .f32) (hu : ∀ n : Fin 8208, u (ix3 b n l) = f (n.val + 8)) :
    diff16 u a (ix3 b t l) = Ideal.div (tot f (t.val + 16) 8) (cnt (BitVec.ofNat 32 t.val) 8#32) - a (ix3 b t l) := by
  pointwise [diff16]
  simp only [hu, tot, Finset.sum_range_succ, show t.val + 16 - 8 = t.val + 8 by omega, Finset.range_zero, Finset.sum_empty, zero_add,
    Nat.add_zero, cnt, Nat.add_comm, Nat.add_left_comm]

end ref

section arrays
variable (na : FVec Ideal S4x8192x512 .bf16) (z : FVec Ideal S4x8192x3072 .bf16) (mla : FVec Ideal S4x8192x512 .bf16)
  (gz : FVec Ideal S4x8192x3072 .bf16) (pw : FVec Ideal S2x4x128x128 .bf16) (psc : FVec Ideal S1x512 .f32)
  (wb : FVec Ideal S2x3x512x1024 .bf16) (wo : FVec Ideal S2x1024x1024 .bf16) (x : FVec Ideal S4x8192x1024 .f32)
  (gate : FVec Ideal S4x1x1024 .f32) (gp : FVec Ideal S1x1024 .f32)

/-- The gated sum of the three projected branches. -/
def mix (b : Fin 4) (t : Fin 8192) (e : Fin 1024) : EReal :=
  gz (ix3 b t ⟨e.val, by omega⟩) * (∑ i : Fin 512, na (ix3 b t i) * wb (ix4 0 0 i e))
    + gz (ix3 b t ⟨1024 + e.val, by omega⟩) * (∑ i : Fin 512, pool z pw psc b t i * wb (ix4 0 1 i e))
    + gz (ix3 b t ⟨2048 + e.val, by omega⟩) * (∑ i : Fin 512, mla (ix3 b t i) * wb (ix4 0 2 i e))

/-- That sum through the last weight. -/
def proj (b : Fin 4) (t : Fin 8192) (d : Fin 1024) : EReal :=
  ∑ e : Fin 1024, mix na z mla gz pw psc wb b t e * wo (ix3 0 e d)

/-- The result: the projection, normalised and gated, added to the stream. -/
def result (b : Fin 4) (t : Fin 8192) (d : Fin 1024) : EReal :=
  x (ix3 b t d) + gate (ix3 b 0 d) * (proj na z mla gz pw psc wb wo b t d
    * Ideal.rsqrt (Ideal.div (∑ k, proj na z mla gz pw psc wb wo b t k * proj na z mla gz pw psc wb wo b t k) (Ideal.ofBits FTy.f32 1149239296#32) + Ideal.ofBits FTy.f32 897988541#32)
    * gp (ix2 0 d))

/-- The columns that are pooled. -/
def cols : FVec Ideal S4x8192x512 .f32 :=
  extractStridedSlice S4x8192x512 ![0, 0, 1536] (extf .f32 z bitsLt_bf16_f32) slices_S4x8192x3072_S4x8192x512_0_0_1536

def col0 : FVec Ideal S4x8192x128 .f32 := extractStridedSlice S4x8192x128 ![0, 0, 0] (cols z) slices_S4x8192x512_S4x8192x128_0_0_0
def col1 : FVec Ideal S4x8192x128 .f32 := extractStridedSlice S4x8192x128 ![0, 0, 128] (cols z) slices_S4x8192x512_S4x8192x128_0_0_128
def col2 : FVec Ideal S4x8192x128 .f32 := extractStridedSlice S4x8192x128 ![0, 0, 256] (cols z) slices_S4x8192x512_S4x8192x128_0_0_256
def col3 : FVec Ideal S4x8192x128 .f32 := extractStridedSlice S4x8192x128 ![0, 0, 384] (cols z) slices_S4x8192x512_S4x8192x128_0_0_384
def pad0 (a : FVec Ideal S4x8192x128 .f32) : FVec Ideal S4x8194x128 .f32 :=
  pad S4x8194x128 ![0, 1, 0] ![0, 1, 0] ![0, 0, 0] a (sitofp .f32 (constantI S_ 32 0#32)) pads_S4x8192x128_S4x8194x128_000_110_000 h_S_
def pad1 (a : FVec Ideal S4x8192x128 .f32) : FVec Ideal S4x8196x128 .f32 :=
  pad S4x8196x128 ![0, 2, 0] ![0, 2, 0] ![0, 0, 0] a (sitofp .f32 (constantI S_ 32 0#32)) pads_S4x8192x128_S4x8196x128_000_220_000 h_S_
def pad2 (a : FVec Ideal S4x8192x128 .f32) : FVec Ideal S4x8200x128 .f32 :=
  pad S4x8200x128 ![0, 4, 0] ![0, 4, 0] ![0, 0, 0] a (sitofp .f32 (constantI S_ 32 0#32)) pads_S4x8192x128_S4x8200x128_000_440_000 h_S_
def pad3 (a : FVec Ideal S4x8192x128 .f32) : FVec Ideal S4x8208x128 .f32 :=
  pad S4x8208x128 ![0, 8, 0] ![0, 8, 0] ![0, 0, 0] a (sitofp .f32 (constantI S_ 32 0#32)) pads_S4x8192x128_S4x8208x128_000_880_000 h_S_

/-- The reference's four groups, stacked. -/
def stack (a0 a1 a2 a3 : FVec Ideal S4x8192x128 .f32) : FVec Ideal S4x8192x4x128 .f32 :=
  concatenate S4x8192x4x128 2 [⟨S4x8192x1x128, broadcastInDim S4x8192x1x128 ![0, 1, 3] bcast_S4x8192x128_S4x8192x1x128_0_1_3 a0⟩,
    ⟨S4x8192x1x128, broadcastInDim S4x8192x1x128 ![0, 1, 3] bcast_S4x8192x128_S4x8192x1x128_0_1_3 a1⟩,
    ⟨S4x8192x1x128, broadcastInDim S4x8192x1x128 ![0, 1, 3] bcast_S4x8192x128_S4x8192x1x128_0_1_3 a2⟩,
    ⟨S4x8192x1x128, broadcastInDim S4x8192x1x128 ![0, 1, 3] bcast_S4x8192x128_S4x8192x1x128_0_1_3 a3⟩]
    concatenates_S4x8192x1x128_S4x8192x1x128_S4x8192x1x128_S4x8192x1x128_S4x8192x4x128_d2

/-- The reference's pooled rows, through their weights. -/
def poolArr (d : FVec Ideal S4x8192x4x128 .f32) : FVec Ideal S4x8192x512 .f32 :=
  mulf (shapeCast _ (transpose S4x8192x4x128 [2, 3, 0, 1] (Host.dotGeneral dot_S4x128x128_S4x8192x4x128_S4x128x4x8192_1_3_2_01_0_2 none (shapeCast _ (extractStridedSlice S1x4x128x128 ![0, 0, 0, 0] (extf .f32 pw bitsLt_bf16_f32) slices_S2x4x128x128_S1x4x128x128_0_0_0_0) shapeCasts_S1x4x128x128_S4x128x128) d) transposes_S4x128x4x8192_S4x8192x4x128_2_3_0_1) shapeCasts_S4x8192x4x128_S4x8192x512) (broadcastInDim S4x8192x512 ![0, 1, 2] bcast_S1x1x512_S4x8192x512_0_1_2 (broadcastInDim S1x1x512 ![2] bcast_S512_S1x1x512_2 (shapeCast _ psc shapeCasts_S1x512_S512)))

/-- The three branches, stacked. -/
def branches (p : FVec Ideal S4x8192x512 .f32) : FVec Ideal S4x8192x3x512 .f32 :=
  concatenate S4x8192x3x512 2 [⟨S4x8192x1x512, broadcastInDim S4x8192x1x512 ![0, 1, 3] bcast_S4x8192x512_S4x8192x1x512_0_1_3 (extf .f32 na bitsLt_bf16_f32)⟩,
    ⟨S4x8192x1x512, broadcastInDim S4x8192x1x512 ![0, 1, 3] bcast_S4x8192x512_S4x8192x1x512_0_1_3 p⟩,
    ⟨S4x8192x1x512, broadcastInDim S4x8192x1x512 ![0, 1, 3] bcast_S4x8192x512_S4x8192x1x512_0_1_3 (extf .f32 mla bitsLt_bf16_f32)⟩]
    concatenates_S4x8192x1x512_S4x8192x1x512_S4x8192x1x512_S4x8192x3x512_d2

/-- The branches projected, gated and added up. -/
def mixArr (r : FVec Ideal S4x8192x3x512 .f32) : FVec Ideal S4x8192x1024 .f32 :=
  Host.reduceAdd (mulf (shapeCast _ (extf .f32 gz bitsLt_bf16_f32) shapeCasts_S4x8192x3072_S4x8192x3x1024) (transpose S4x8192x3x1024 [2, 3, 0, 1] (Host.dotGeneral dot_S3x512x1024_S4x8192x3x512_S3x1024x4x8192_1_3_2_01_0_2 none (shapeCast _ (extractStridedSlice S1x3x512x1024 ![0, 0, 0, 0] (extf .f32 wb bitsLt_bf16_f32) slices_S2x3x512x1024_S1x3x512x1024_0_0_0_0) shapeCasts_S1x3x512x1024_S3x512x1024) r) transposes_S3x1024x4x8192_S4x8192x3x1024_2_3_0_1)) (constant S_ .f32 0x00000000#32) reducesTo_S4x8192x3x1024_S4x8192x1024_d2 h_S_

/-- The last projection. -/
def projArr (y : FVec Ideal S4x8192x1024 .f32) : FVec Ideal S4x8192x1024 .f32 :=
  Host.dotGeneral dot_S4x8192x1024_S1024x1024_S4x8192x1024_2_0_01_1_n_n none y (shapeCast _ (extractStridedSlice S1x1024x1024 ![0, 0, 0] (extf .f32 wo bitsLt_bf16_f32) slices_S2x1024x1024_S1x1024x1024_0_0_0) shapeCasts_S1x1024x1024_S1024x1024)

/-- The four groups of the reference. -/
def diffs : FVec Ideal S4x8192x4x128 .f32 :=
  stack (diff2 (pad0 (col0 z)) (col0 z)) (diff4 (pad1 (col1 z)) (col1 z)) (diff8 (pad2 (col2 z)) (col2 z)) (diff16 (pad3 (col3 z)) (col3 z))

/-- The whole reference. -/
def ref : FVec Ideal S4x8192x1024 .f32 :=
  Cert.Ffn.outArr x (projArr wo (mixArr gz wb (branches na mla (poolArr pw psc (diffs z))))) gate gp

/-- A padded column read at a row: the column `h` rows before, zero outside. -/
theorem lane_pad (j : Fin 512) (b : Fin 4) (n h : ℕ) (v : EReal) (hh : h ≤ 16)
    (hv : ∀ p : h ≤ n ∧ n - h < 8192, v = z (ix3 b ⟨n - h, p.2⟩ ⟨1536 + j.val, by omega⟩)) (hz : ¬ (h ≤ n ∧ n - h < 8192) → v = 0) :
    v = lane z b j (n + (16 - h)) := by
  unfold lane
  by_cases p : h ≤ n ∧ n - h < 8192
  · rw [dif_pos (by omega), hv p]
    congr 3
    omega
  · rw [dif_neg (by omega), hz p]

theorem zero_bits : FloatOps.sitofp (F := Ideal) FTy.f32 (0#32 : BitVec 32) = 0 := by
  show (((0#32 : BitVec 32).toInt : ℝ) : EReal) = 0
  simp

theorem col0_at (b : Fin 4) (t : Fin 8192) (l : Fin 128) : col0 z (ix3 b t l) = lane z b ⟨l.val, by omega⟩ (t.val + 16) := by
  refine lane_pad z _ b t 0 _ (by omega) (fun p => ?_) (fun p => absurd ⟨by omega, by omega⟩ p)
  pointwise [col0, cols]
theorem col1_at (b : Fin 4) (t : Fin 8192) (l : Fin 128) : col1 z (ix3 b t l) = lane z b ⟨128 + l.val, by omega⟩ (t.val + 16) := by
  refine lane_pad z _ b t 0 _ (by omega) (fun p => ?_) (fun p => absurd ⟨by omega, by omega⟩ p)
  pointwise [col1, cols]
theorem col2_at (b : Fin 4) (t : Fin 8192) (l : Fin 128) : col2 z (ix3 b t l) = lane z b ⟨256 + l.val, by omega⟩ (t.val + 16) := by
  refine lane_pad z _ b t 0 _ (by omega) (fun p => ?_) (fun p => absurd ⟨by omega, by omega⟩ p)
  pointwise [col2, cols]
theorem col3_at (b : Fin 4) (t : Fin 8192) (l : Fin 128) : col3 z (ix3 b t l) = lane z b ⟨384 + l.val, by omega⟩ (t.val + 16) := by
  refine lane_pad z _ b t 0 _ (by omega) (fun p => ?_) (fun p => absurd ⟨by omega, by omega⟩ p)
  pointwise [col3, cols]

theorem pad0_at (b : Fin 4) (n : Fin 8194) (l : Fin 128) : pad0 (col0 z) (ix3 b n l) = lane z b ⟨l.val, by omega⟩ (n.val + 15) := by
  have hn := n.isLt
  pointwise [pad0, col0_at]
  split
  · congr 1
    omega
  · rw [zero_bits, lane, dif_neg (by omega)]

theorem pad1_at (b : Fin 4) (n : Fin 8196) (l : Fin 128) : pad1 (col1 z) (ix3 b n l) = lane z b ⟨128 + l.val, by omega⟩ (n.val + 14) := by
  have hn := n.isLt
  pointwise [pad1, col1_at]
  split
  · congr 1
    omega
  · rw [zero_bits, lane, dif_neg (by omega)]

theorem pad2_at (b : Fin 4) (n : Fin 8200) (l : Fin 128) : pad2 (col2 z) (ix3 b n l) = lane z b ⟨256 + l.val, by omega⟩ (n.val + 12) := by
  have hn := n.isLt
  pointwise [pad2, col2_at]
  split
  · congr 1
    omega
  · rw [zero_bits, lane, dif_neg (by omega)]

theorem pad3_at (b : Fin 4) (n : Fin 8208) (l : Fin 128) : pad3 (col3 z) (ix3 b n l) = lane z b ⟨384 + l.val, by omega⟩ (n.val + 8) := by
  have hn := n.isLt
  pointwise [pad3, col3_at]
  split
  · congr 1
    omega
  · rw [zero_bits, lane, dif_neg (by omega)]

theorem stack_at (a0 a1 a2 a3 : FVec Ideal S4x8192x128 .f32) (b : Fin 4) (t : Fin 8192) (g : Fin 4) (l : Fin 128) :
    stack a0 a1 a2 a3 (ix4 b t g l) = ![a0 (ix3 b t l), a1 (ix3 b t l), a2 (ix3 b t l), a3 (ix3 b t l)] g := by
  fin_cases g
  all_goals pointwise [stack]

theorem diffs_at (b : Fin 4) (t : Fin 8192) (g : Fin 4) (l : Fin 128) : diffs z (ix4 b t g l) = diff z b t.val g l := by
  refine (stack_at _ _ _ _ b t g l).trans ?_
  fin_cases g
  · refine (diff2_at b t l _ _ _ fun n => pad0_at z b n l).trans ?_
    rw [col0_at]
    simp only [diff, half, Nat.zero_mul, Nat.zero_add]
    rfl
  · refine (diff4_at b t l _ _ _ fun n => pad1_at z b n l).trans ?_
    rw [col1_at]
    rfl
  · refine (diff8_at b t l _ _ _ fun n => pad2_at z b n l).trans ?_
    rw [col2_at]
    rfl
  · refine (diff16_at b t l _ _ _ fun n => pad3_at z b n l).trans ?_
    rw [col3_at]
    rfl

theorem poolArr_at (d : FVec Ideal S4x8192x4x128 .f32) (b : Fin 4) (t : Fin 8192) (j : Fin 512) : poolArr pw psc d (ix3 b t j)
    = (∑ l : Fin 128, d (ix4 b t ⟨j.val / 128, by omega⟩ l) * pw (ix4 0 ⟨j.val / 128, by omega⟩ l ⟨j.val % 128, by omega⟩)) * psc (ix2 0 j) := by
  pointwise [poolArr]
  exact congrArg (· * _) (Finset.sum_congr rfl fun l _ => mul_comm _ _)

theorem mixArr_at (r : FVec Ideal S4x8192x3x512 .f32) (b : Fin 4) (t : Fin 8192) (e : Fin 1024) : mixArr gz wb r (ix3 b t e)
    = gz (ix3 b t ⟨e.val, by omega⟩) * (∑ i : Fin 512, r (ix4 b t 0 i) * wb (ix4 0 0 i e))
    + gz (ix3 b t ⟨1024 + e.val, by omega⟩) * (∑ i : Fin 512, r (ix4 b t 1 i) * wb (ix4 0 1 i e))
    + gz (ix3 b t ⟨2048 + e.val, by omega⟩) * (∑ i : Fin 512, r (ix4 b t 2 i) * wb (ix4 0 2 i e)) := by
  pointwise [mixArr]
  rw [Fin.sum_univ_three]
  simp only [mul_comm (wb _) _]
  congr 4
  all_goals first | exact Fin.ext (by simp) | exact congrArg (ix3 b t) (Fin.ext (by simp))

theorem branches_at (p : FVec Ideal S4x8192x512 .f32) (b : Fin 4) (t : Fin 8192) (k : Fin 3) (i : Fin 512) :
    branches na mla p (ix4 b t k i) = ![na (ix3 b t i), p (ix3 b t i), mla (ix3 b t i)] k := by
  fin_cases k
  all_goals pointwise [branches]

theorem projArr_at (y : FVec Ideal S4x8192x1024 .f32) (b : Fin 4) (t : Fin 8192) (d : Fin 1024) : projArr wo y (ix3 b t d)
    = ∑ e : Fin 1024, y (ix3 b t e) * wo (ix3 0 e d) := by
  pointwise [projArr]

theorem mix_eq (b : Fin 4) (t : Fin 8192) (e : Fin 1024) :
    mixArr gz wb (branches na mla (poolArr pw psc (diffs z))) (ix3 b t e) = mix na z mla gz pw psc wb b t e := by
  refine (mixArr_at gz wb _ b t e).trans ?_
  simp only [branches_at]
  have hp : ∀ i, poolArr pw psc (diffs z) (ix3 b t i) = pool z pw psc b t.val i := fun i => by
    refine (poolArr_at pw psc _ b t i).trans ?_
    simp only [diffs_at]
    rfl
  show _ + gz _ * (∑ i, poolArr pw psc (diffs z) (ix3 b t i) * _) + _ = _
  simp only [hp]
  rfl

/-- The reference, element by element. -/
theorem ref_at (b : Fin 4) (t : Fin 8192) (d : Fin 1024) : ref na z mla gz pw psc wb wo x gate gp (ix3 b t d)
    = result na z mla gz pw psc wb wo x gate gp b t d := by
  refine (Cert.Ffn.outArr_at _ _ _ _ b t d).trans ?_
  have hp : ∀ k, projArr wo (mixArr gz wb (branches na mla (poolArr pw psc (diffs z)))) (ix3 b t k) = proj na z mla gz pw psc wb wo b t k := fun k => by
    refine (projArr_at wo _ b t k).trans ?_
    simp only [mix_eq]
    rfl
  simp only [hp]
  rfl

end arrays

/-- The reference's four groups are these. -/
theorem groups (V : Valuation τ sig (Elt Ideal)) : Cert.Reference4Ideal.Value.res_main_v139 V = diffs (V (Proc.devRef .tc main_arg1)) := by
  have c0 : Cert.Reference4Ideal.Value.res_main_v15 V = col0 (V (Proc.devRef .tc main_arg1)) := rfl
  have c1 : Cert.Reference4Ideal.Value.res_main_v36 V = col1 (V (Proc.devRef .tc main_arg1)) := rfl
  have c2 : Cert.Reference4Ideal.Value.res_main_v61 V = col2 (V (Proc.devRef .tc main_arg1)) := rfl
  have c3 : Cert.Reference4Ideal.Value.res_main_v94 V = col3 (V (Proc.devRef .tc main_arg1)) := rfl
  have p0 : Cert.Reference4Ideal.Value.res_main_v16 V = pad0 (Cert.Reference4Ideal.Value.res_main_v15 V) := rfl
  have p1 : Cert.Reference4Ideal.Value.res_main_v37 V = pad1 (Cert.Reference4Ideal.Value.res_main_v36 V) := rfl
  have p2 : Cert.Reference4Ideal.Value.res_main_v62 V = pad2 (Cert.Reference4Ideal.Value.res_main_v61 V) := rfl
  have p3 : Cert.Reference4Ideal.Value.res_main_v95 V = pad3 (Cert.Reference4Ideal.Value.res_main_v94 V) := rfl
  have i : Cert.Reference4Ideal.Value.res_main_v6 V = iotaInDim S8192 32 0 := rfl
  unfold Cert.Reference4Ideal.Value.res_main_v139
  rw [p0, p1, p2, p3, c0, c1, c2, c3, i]
  rfl

/-- The reference's projection is that of its groups. -/
theorem term (V : Valuation τ sig (Elt Ideal)) : Cert.Reference4Ideal.Value.res_main_v164 V
    = projArr (V (Proc.devRef .tc main_arg7)) (mixArr (V (Proc.devRef .tc main_arg3)) (V (Proc.devRef .tc main_arg6))
      (branches (V (Proc.devRef .tc main_arg0)) (V (Proc.devRef .tc main_arg2)) (poolArr (V (Proc.devRef .tc main_arg4)) (V (Proc.devRef .tc main_arg5))
        (Cert.Reference4Ideal.Value.res_main_v139 V)))) := rfl

/-- The reference's result, as its run states it. -/
theorem run_ref (V : Valuation τ sig (Elt Ideal)) :
    Cert.Ffn.outArr (V (Proc.devRef .tc main_arg8)) (Cert.Reference4Ideal.Value.res_main_v164 V) (V (Proc.devRef .tc main_arg9)) (V (Proc.devRef .tc main_arg10))
      = ref (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) (V (Proc.devRef .tc main_arg9)) (V (Proc.devRef .tc main_arg10)) := by
  rw [term, groups]
  rfl

end Cert.Merge
-- ==== Proof.Merge.lean ====
module

public import proofs.«01_k».proof.Proof.MergeRef
public import proofs.«01_k».proof.Proof.Gen.Kernel4Ideal.Value
public import Idealize.ShloMosaic.Lib.Pipeline.ValueKit
public import Idealize.ShloMosaic.Lib.Pipeline.ReadBack

/-! The merge's blocks: each is the reference's rows. -/

@[expose] public section

set_option maxRecDepth 16384

noncomputable section

namespace Cert.Merge

open Idealize.ShloMosaic Idealize.ShloMosaic.TcCoe Idealize.SL.Sem
open Idealize.ShloMosaic.Pipeline (Dat)
open Cert.Kernel4Ideal Cert.Kernel4Ideal.Gen

/-- Every window's block index at point `t`. -/
theorem idx : ∀ t : Fin cfg0.N, t.val < 32 ∧ win0_0.index t = ![t.val / 8, t.val % 8, 0]
    ∧ win0_1.index t = ![t.val / 8, t.val % 8 * 64 - 1, 3] ∧ win0_2.index t = ![t.val / 8, t.val % 8, 3]
    ∧ win0_3.index t = ![t.val / 8, min (t.val % 8 * 64 + 64) 511, 3] ∧ win0_4.index t = ![t.val / 8, t.val % 8, 0]
    ∧ win0_5.index t = ![t.val / 8, t.val % 8, 0] ∧ win0_6.index t = ![t.val / 8, t.val % 8, 1] ∧ win0_7.index t = ![t.val / 8, t.val % 8, 2]
    ∧ win0_8.index t = ![0, 0, 0, 0] ∧ win0_9.index t = ![0, 0] ∧ win0_10.index t = ![0, 0, 0, 0] ∧ win0_11.index t = ![0, 0, 0]
    ∧ win0_12.index t = ![t.val / 8, t.val % 8, 0] ∧ win0_13.index t = ![t.val / 8, 0, 0] ∧ win0_14.index t = ![0, 0]
    ∧ win0_15.index t = ![t.val / 8, t.val % 8, 0] :=
  (by decide +kernel : ∀ t : Fin grid0.N, _)

theorem coord : ∀ t : Fin cfg0.N, (grid0.coords t 1).val = t.val % 8 :=
  (by decide +kernel : ∀ t : Fin grid0.N, _)

/-- Which of a block's rows there are. -/
theorem mask : ∀ (i : Fin 8) (ρ : Fin 1056),
    IntOp.andi (IntOp.cmpi CmpIPredicate.sge (IntOp.addi (IntOp.subi (IntOp.muli (BitVec.ofNat 32 i.val) 1024#32) 16#32) (BitVec.ofNat 32 ρ.val)) 0#32)
      (IntOp.cmpi CmpIPredicate.slt (IntOp.addi (IntOp.subi (IntOp.muli (BitVec.ofNat 32 i.val) 1024#32) 16#32) (BitVec.ofNat 32 ρ.val)) 8192#32)
      = (if 16 ≤ i.val * 1024 + ρ.val ∧ i.val * 1024 + ρ.val < 8208 then 1#1 else 0#1) := by
  decide +kernel

section pure

/-- Rows around `A`'s: the row and the one before. -/
def sh1 (A : FVec Ideal S1056x128 .f32) : FVec Ideal S1056x128 .f32 := addf A (dynamicRotate 0 1#32 none A rotates_S1056x128_d0)
/-- Rows `h` before and `h` after. -/
def sh2 (A : FVec Ideal S1056x128 .f32) : FVec Ideal S1056x128 .f32 :=
  addf (dynamicRotate 0 1#32 none A rotates_S1056x128_d0) (dynamicRotate 0 1055#32 none A rotates_S1056x128_d0)
def sh4 (A : FVec Ideal S1056x128 .f32) : FVec Ideal S1056x128 .f32 :=
  addf (dynamicRotate 0 2#32 none A rotates_S1056x128_d0) (dynamicRotate 0 1054#32 none A rotates_S1056x128_d0)
def sh8 (A : FVec Ideal S1056x128 .f32) : FVec Ideal S1056x128 .f32 :=
  addf (dynamicRotate 0 4#32 none A rotates_S1056x128_d0) (dynamicRotate 0 1052#32 none A rotates_S1056x128_d0)

variable (A : FVec Ideal S1056x128 .f32) (l : Fin 128) (f : ℕ → EReal)

theorem sh1_at (h : ∀ ρ : Fin 1056, A (ix2 ρ l) = f ρ.val) (ρ : Fin 1056) (h1 : 1 ≤ ρ.val) : sh1 A (ix2 ρ l) = tot f ρ.val 1 := by
  have e : (ρ.val + 1056 - 1) % 1056 = ρ.val - 1 := by omega
  rw [tot_one f _ h1]
  pointwise [sh1]
  simp only [e, h]

theorem sh2_at (h : ∀ ρ : Fin 1056, 1 ≤ ρ.val → A (ix2 ρ l) = tot f ρ.val 1) (ρ : Fin 1056) (h1 : 2 ≤ ρ.val) (h2 : ρ.val < 1055) :
    sh2 A (ix2 ρ l) = tot f ρ.val 2 := by
  have e : (ρ.val + 1056 - 1) % 1056 = ρ.val - 1 := by omega
  have e' : (ρ.val + 1056 - 1055) % 1056 = ρ.val + 1 := by omega
  rw [show (2 : ℕ) = 2 * 1 from rfl, tot_two f _ 1 (by omega)]
  pointwise [sh2]
  simp only [e, e']
  rw [h _ (by dsimp only; omega), h _ (by dsimp only; omega)]

theorem sh4_at (h : ∀ ρ : Fin 1056, 2 ≤ ρ.val → ρ.val < 1055 → A (ix2 ρ l) = tot f ρ.val 2) (ρ : Fin 1056) (h1 : 4 ≤ ρ.val) (h2 : ρ.val < 1053) :
    sh4 A (ix2 ρ l) = tot f ρ.val 4 := by
  have e : (ρ.val + 1056 - 2) % 1056 = ρ.val - 2 := by omega
  have e' : (ρ.val + 1056 - 1054) % 1056 = ρ.val + 2 := by omega
  rw [show (4 : ℕ) = 2 * 2 from rfl, tot_two f _ 2 (by omega)]
  pointwise [sh4]
  simp only [e, e']
  rw [h _ (by dsimp only; omega) (by dsimp only; omega), h _ (by dsimp only; omega) (by dsimp only; omega)]

theorem sh8_at (h : ∀ ρ : Fin 1056, 4 ≤ ρ.val → ρ.val < 1053 → A (ix2 ρ l) = tot f ρ.val 4) (ρ : Fin 1056) (h1 : 8 ≤ ρ.val) (h2 : ρ.val < 1049) :
    sh8 A (ix2 ρ l) = tot f ρ.val 8 := by
  have e : (ρ.val + 1056 - 4) % 1056 = ρ.val - 4 := by omega
  have e' : (ρ.val + 1056 - 1052) % 1056 = ρ.val + 4 := by omega
  rw [show (8 : ℕ) = 2 * 4 from rfl, tot_two f _ 4 (by omega)]
  pointwise [sh8]
  simp only [e, e']
  rw [h _ (by dsimp only; omega) (by dsimp only; omega), h _ (by dsimp only; omega) (by dsimp only; omega)]

/-- One group: the window mean less the row, through its weight and its scale. -/
def grp (h : BitVec 32) (u a : FVec Ideal S1056x128 .f32) (v : IVec S1024x1 32) (w : FVec Ideal S1x1x128x128 .bf16) (s : FVec Ideal S1x128 .f32) :
    FVec Ideal S1024x128 .bf16 :=
  truncf .bf16 (mulf (matmul dot_S1024x128_S128x128_S1024x128_1_0_0_1_n_n none
    (truncf .bf16 (subf (divf (extractStridedSlice S1024x128 ![16, 0] u slices_S1056x128_o16_0_S1024x128)
      (broadcastTo S1024x128 (sitofp .f32 (subi (minsi (addi v (broadcast S1024x1 h)) (broadcast S1024x1 8192#32))
        (maxsi (subi v (broadcast S1024x1 h)) (broadcast S1024x1 0#32)))) broadcasts_S1024x1_S1024x128))
      (extractStridedSlice S1024x128 ![16, 0] a slices_S1056x128_o16_0_S1024x128)) bitsLt_bf16_f32)
    (shapeCast S128x128 w shapeCasts_S1x1x128x128_S128x128) (constant S1024x128 .f32 0x00000000#32))
    (broadcastTo S1024x128 s broadcasts_S1x128_S1024x128)) bitsLt_bf16_f32

theorem grp_at (h : BitVec 32) (u a : FVec Ideal S1056x128 .f32) (v : IVec S1024x1 32) (w : FVec Ideal S1x1x128x128 .bf16) (s : FVec Ideal S1x128 .f32)
    (q : Fin 1024) (o : Fin 128) : grp h u a v w s (ix2 q o)
      = (∑ l : Fin 128, (Ideal.div (u (ix2 ⟨16 + q.val, by omega⟩ l)) (cnt (v (ix2 q 0)) h) - a (ix2 ⟨16 + q.val, by omega⟩ l)) * w (ix4 0 0 l o))
        * s (ix2 0 o) := by
  pointwise [grp, cnt]

def cat (a0 a1 a2 a3 : FVec Ideal S1024x128 .bf16) : FVec Ideal S1024x512 .bf16 :=
  concatenate S1024x512 1 [⟨S1024x128, a0⟩, ⟨S1024x128, a1⟩, ⟨S1024x128, a2⟩, ⟨S1024x128, a3⟩] concatenates_S1024x128_S1024x128_S1024x128_S1024x128_S1024x512_d1

theorem cat_at (a0 a1 a2 a3 : FVec Ideal S1024x128 .bf16) (q : Fin 1024) (g : Fin 4) (o : Fin 128) :
    cat a0 a1 a2 a3 (ix2 q ⟨g.val * 128 + o.val, by omega⟩) = ![a0 (ix2 q o), a1 (ix2 q o), a2 (ix2 q o), a3 (ix2 q o)] g := by
  fin_cases g
  all_goals pointwise [cat]
  · rw [dif_neg (by omega), dif_neg (by omega), dif_pos (by omega)]
    exact congrArg a2 (congrArg (ix2 q) (Fin.ext (by dsimp only; omega)))
  · rw [dif_neg (by omega), dif_neg (by omega), dif_neg (by omega)]
    exact congrArg a3 (congrArg (ix2 q) (Fin.ext (by dsimp only; omega)))

def sl0 (E : FVec Ideal S1056x512 .f32) : FVec Ideal S1056x128 .f32 := extractStridedSlice S1056x128 ![0, 0] E slices_S1056x512_o0_0_S1056x128
def sl1 (E : FVec Ideal S1056x512 .f32) : FVec Ideal S1056x128 .f32 := extractStridedSlice S1056x128 ![0, 128] E slices_S1056x512_o0_128_S1056x128
def sl2 (E : FVec Ideal S1056x512 .f32) : FVec Ideal S1056x128 .f32 := extractStridedSlice S1056x128 ![0, 256] E slices_S1056x512_o0_256_S1056x128
def sl3 (E : FVec Ideal S1056x512 .f32) : FVec Ideal S1056x128 .f32 := extractStridedSlice S1056x128 ![0, 384] E slices_S1056x512_o0_384_S1056x128

theorem sl0_at (E : FVec Ideal S1056x512 .f32) (ρ : Fin 1056) (l : Fin 128) : sl0 E (ix2 ρ l) = E (ix2 ρ ⟨l.val, by omega⟩) := by
  pointwise [sl0]
theorem sl1_at (E : FVec Ideal S1056x512 .f32) (ρ : Fin 1056) (l : Fin 128) : sl1 E (ix2 ρ l) = E (ix2 ρ ⟨128 + l.val, by omega⟩) := by
  pointwise [sl1]
theorem sl2_at (E : FVec Ideal S1056x512 .f32) (ρ : Fin 1056) (l : Fin 128) : sl2 E (ix2 ρ l) = E (ix2 ρ ⟨256 + l.val, by omega⟩) := by
  pointwise [sl2]
theorem sl3_at (E : FVec Ideal S1056x512 .f32) (ρ : Fin 1056) (l : Fin 128) : sl3 E (ix2 ρ l) = E (ix2 ρ ⟨384 + l.val, by omega⟩) := by
  pointwise [sl3]

/-- The block's rows with their neighbours, zero where there is no row. -/
theorem pad_at (i : grid0.Coords) (P : FVec Ideal S1x16x512 .bf16) (M : FVec Ideal S1x1024x512 .bf16) (N : FVec Ideal S1x16x512 .bf16)
    (z : FVec Ideal S4x8192x3072 .bf16) (b : Fin 4) (k : ℕ) (hk : k < 8) (hi : (i 1).val = k)
    (hP : ∀ (r : Fin 16) (j : Fin 512) (n : Fin 8192), n.val + 16 = k * 1024 + r.val → P (ix3 0 r j) = z (ix3 b n ⟨1536 + j.val, by omega⟩))
    (hM : ∀ (r : Fin 1024) (j : Fin 512) (n : Fin 8192), n.val = k * 1024 + r.val → M (ix3 0 r j) = z (ix3 b n ⟨1536 + j.val, by omega⟩))
    (hN : ∀ (r : Fin 16) (j : Fin 512) (n : Fin 8192), n.val = k * 1024 + 1024 + r.val → N (ix3 0 r j) = z (ix3 b n ⟨1536 + j.val, by omega⟩))
    (ρ : Fin 1056) (j : Fin 512) : k0_pay2 (F := Ideal) i P M N (ix2 ρ j) = lane z b j (k * 1024 + ρ.val) := by
  have hm := mask ⟨k, hk⟩ ρ
  have hρ := ρ.isLt
  pointwise [k0_pay2]
  rw [hi]
  refine (congrArg (fun c => Scalar.select c _ _) hm).trans ?_
  dsimp only
  unfold lane
  by_cases p : 16 ≤ k * 1024 + ρ.val ∧ k * 1024 + ρ.val < 8208
  · rw [if_pos p, dif_pos p]
    show (if h : _ then _ else _) = _
    split
    · exact hP _ j _ (by dsimp only; omega)
    · split
      · exact hM _ j _ (by dsimp only; omega)
      · exact hN _ j _ (by dsimp only; omega)
  · rw [if_neg p, dif_neg p]
    rfl

theorem tot_shift (f : ℕ → EReal) (N n h : ℕ) (hn : h ≤ n) : tot (fun k => f (N + k)) n h = tot f (N + n) h :=
  Finset.sum_congr rfl fun k _ => congrArg f (by omega)

/-- The pooled rows of a block. -/
def kpool (E : FVec Ideal S1056x512 .f32) (v : IVec S1024x1 32) (w0 w1 w2 w3 : FVec Ideal S1x1x128x128 .bf16) (s0 s1 s2 s3 : FVec Ideal S1x128 .f32) :
    FVec Ideal S1024x512 .bf16 :=
  cat (grp 1#32 (sh1 (sl0 E)) (sl0 E) v w0 s0) (grp 2#32 (sh2 (sh1 (sl1 E))) (sl1 E) v w1 s1)
    (grp 4#32 (sh4 (sh2 (sh1 (sl2 E)))) (sl2 E) v w2 s2) (grp 8#32 (sh8 (sh4 (sh2 (sh1 (sl3 E))))) (sl3 E) v w3 s3)

section pool
variable (z : FVec Ideal S4x8192x3072 .bf16) (pw : FVec Ideal S2x4x128x128 .bf16) (psc : FVec Ideal S1x512 .f32) (b : Fin 4) (N : ℕ)

theorem grp_eq (g : Fin 4) (h : BitVec 32) (hh : h = BitVec.ofNat 32 (half g.val)) (u a : FVec Ideal S1056x128 .f32) (v : IVec S1024x1 32)
    (w : FVec Ideal S1x1x128x128 .bf16) (s : FVec Ideal S1x128 .f32) (q : Fin 1024) (o : Fin 128)
    (hu : ∀ l : Fin 128, u (ix2 ⟨16 + q.val, by omega⟩ l) = tot (fun n => lane z b ⟨g.val * 128 + l.val, by omega⟩ (N + n)) (16 + q.val) (half g.val))
    (ha : ∀ l : Fin 128, a (ix2 ⟨16 + q.val, by omega⟩ l) = lane z b ⟨g.val * 128 + l.val, by omega⟩ (N + (16 + q.val)))
    (hv : v (ix2 q 0) = BitVec.ofNat 32 (N + q.val)) (hw : ∀ l o : Fin 128, w (ix4 0 0 l o) = pw (ix4 0 g l o))
    (hs : ∀ o : Fin 128, s (ix2 0 o) = psc (ix2 0 ⟨g.val * 128 + o.val, by omega⟩)) :
    grp h u a v w s (ix2 q o) = pool z pw psc b (N + q.val) ⟨g.val * 128 + o.val, by omega⟩ := by
  refine (grp_at h u a v w s q o).trans ?_
  have eg : (⟨(g.val * 128 + o.val) / 128, by omega⟩ : Fin 4) = g := Fin.ext (by dsimp only; omega)
  have eo : (⟨(g.val * 128 + o.val) % 128, by omega⟩ : Fin 128) = o := Fin.ext (by dsimp only; omega)
  have hg : half g.val ≤ 16 + q.val := by
    have : half g.val ≤ 16 := by fin_cases g <;> decide
    omega
  have en : (g.val * 128 + o.val) / 128 = g.val := by omega
  unfold pool
  simp only [eg, eo, en, hu, ha, hv, hw, hs, hh, tot_shift _ N _ _ hg, diff, show N + (16 + q.val) = N + q.val + 16 by omega]

theorem kpool_at (E : FVec Ideal S1056x512 .f32) (v : IVec S1024x1 32) (w0 w1 w2 w3 : FVec Ideal S1x1x128x128 .bf16) (s0 s1 s2 s3 : FVec Ideal S1x128 .f32)
    (hE : ∀ (ρ : Fin 1056) (j : Fin 512), E (ix2 ρ j) = lane z b j (N + ρ.val)) (hv : ∀ q : Fin 1024, v (ix2 q 0) = BitVec.ofNat 32 (N + q.val))
    (hw0 : ∀ l o : Fin 128, w0 (ix4 0 0 l o) = pw (ix4 0 0 l o)) (hw1 : ∀ l o : Fin 128, w1 (ix4 0 0 l o) = pw (ix4 0 1 l o))
    (hw2 : ∀ l o : Fin 128, w2 (ix4 0 0 l o) = pw (ix4 0 2 l o)) (hw3 : ∀ l o : Fin 128, w3 (ix4 0 0 l o) = pw (ix4 0 3 l o))
    (hs0 : ∀ o : Fin 128, s0 (ix2 0 o) = psc (ix2 0 ⟨0 + o.val, by omega⟩)) (hs1 : ∀ o : Fin 128, s1 (ix2 0 o) = psc (ix2 0 ⟨128 + o.val, by omega⟩))
    (hs2 : ∀ o : Fin 128, s2 (ix2 0 o) = psc (ix2 0 ⟨256 + o.val, by omega⟩)) (hs3 : ∀ o : Fin 128, s3 (ix2 0 o) = psc (ix2 0 ⟨384 + o.val, by omega⟩))
    (q : Fin 1024) (j : Fin 512) : kpool E v w0 w1 w2 w3 s0 s1 s2 s3 (ix2 q j) = pool z pw psc b (N + q.val) j := by
  have hq := q.isLt
  have a0 : ∀ (ρ : Fin 1056) (l : Fin 128), sl0 E (ix2 ρ l) = lane z b ⟨0 * 128 + l.val, by omega⟩ (N + ρ.val) := fun ρ l => by
    refine (sl0_at E ρ l).trans ((hE _ _).trans ?_)
    simp only [Nat.zero_mul, Nat.zero_add]
  have a1 : ∀ (ρ : Fin 1056) (l : Fin 128), sl1 E (ix2 ρ l) = lane z b ⟨1 * 128 + l.val, by omega⟩ (N + ρ.val) :=
    fun ρ l => (sl1_at E ρ l).trans (hE _ _)
  have a2 : ∀ (ρ : Fin 1056) (l : Fin 128), sl2 E (ix2 ρ l) = lane z b ⟨2 * 128 + l.val, by omega⟩ (N + ρ.val) :=
    fun ρ l => (sl2_at E ρ l).trans (hE _ _)
  have a3 : ∀ (ρ : Fin 1056) (l : Fin 128), sl3 E (ix2 ρ l) = lane z b ⟨3 * 128 + l.val, by omega⟩ (N + ρ.val) :=
    fun ρ l => (sl3_at E ρ l).trans (hE _ _)
  obtain ⟨g, o, rfl⟩ : ∃ (g : Fin 4) (o : Fin 128), j = ⟨g.val * 128 + o.val, by omega⟩ :=
    ⟨⟨j.val / 128, by omega⟩, ⟨j.val % 128, by omega⟩, Fin.ext (by dsimp only; omega)⟩
  refine (cat_at _ _ _ _ q g o).trans ?_
  fin_cases g
  · exact grp_eq z pw psc b N 0 1#32 rfl _ _ v w0 s0 q o
      (fun l => sh1_at _ l (fun n => lane z b ⟨0 * 128 + l.val, by omega⟩ (N + n)) (fun ρ => a0 ρ l) _ (by dsimp only; omega))
      (fun l => a0 _ l) (hv q) hw0 (fun o => (hs0 o).trans (by simp))
  · exact grp_eq z pw psc b N 1 2#32 rfl _ _ v w1 s1 q o
      (fun l => sh2_at _ l (fun n => lane z b ⟨1 * 128 + l.val, by omega⟩ (N + n))
        (sh1_at _ l _ (fun ρ => a1 ρ l)) _ (by dsimp only; omega) (by dsimp only; omega))
      (fun l => a1 _ l) (hv q) hw1 hs1
  · exact grp_eq z pw psc b N 2 4#32 rfl _ _ v w2 s2 q o
      (fun l => sh4_at _ l (fun n => lane z b ⟨2 * 128 + l.val, by omega⟩ (N + n))
        (sh2_at _ l _ (sh1_at _ l _ (fun ρ => a2 ρ l))) _ (by dsimp only; omega) (by dsimp only; omega))
      (fun l => a2 _ l) (hv q) hw2 hs2
  · exact grp_eq z pw psc b N 3 8#32 rfl _ _ v w3 s3 q o
      (fun l => sh8_at _ l (fun n => lane z b ⟨3 * 128 + l.val, by omega⟩ (N + n))
        (sh4_at _ l _ (sh2_at _ l _ (sh1_at _ l _ (fun ρ => a3 ρ l)))) _ (by dsimp only; omega) (by dsimp only; omega))
      (fun l => a3 _ l) (hv q) hw3 hs3

end pool

theorem row_at (i : grid0.Coords) (q : Fin 1024) : k0_pay3 i (ix2 q 0) = BitVec.ofNat 32 ((i 1).val * 1024 + q.val) := by
  pointwise [k0_pay3]
  rw [BitVec.ofNat_add, BitVec.ofNat_mul]
  rfl

theorem proj_at (p na mla : FVec Ideal S1024x512 .bf16) (w0 w1 w2 : FVec Ideal S1x1x512x1024 .bf16) (g0 g1 g2 wo : FVec Ideal S1x1024x1024 .bf16)
    (q : Fin 1024) (d : Fin 1024) : k0_pay18 (F := Ideal) p na mla w0 g0 w1 g1 w2 g2 wo (ix2 q d)
      = ∑ e : Fin 1024, (g0 (ix3 0 q e) * (∑ i : Fin 512, na (ix2 q i) * w0 (ix4 0 0 i e))
        + g1 (ix3 0 q e) * (∑ i : Fin 512, p (ix2 q i) * w1 (ix4 0 0 i e))
        + g2 (ix3 0 q e) * (∑ i : Fin 512, mla (ix2 q i) * w2 (ix4 0 0 i e))) * wo (ix3 0 e d) := by
  pointwise [k0_pay18]

theorem out_at (y x : FVec Ideal S1024x1024 .f32) (G : FVec Ideal S1x1x1024 .f32) (p : FVec Ideal S1x1024 .f32) (q d : Fin 1024) :
    k0_pay1 (F := Ideal) y x G p (ix3 0 q d) = x (ix2 q d) + G (ix3 0 0 d) * (y (ix2 q d)
        * Ideal.rsqrt (Ideal.div (∑ k, y (ix2 q k) * y (ix2 q k)) (Ideal.ofBits FTy.f32 1149239296#32) + Ideal.ofBits FTy.f32 897988541#32)
        * p (ix2 0 d)) := by
  pointwise [k0_pay1]

/-- A block's row is the result's, where its projection is. -/
theorem fin_eq (na : FVec Ideal S4x8192x512 .bf16) (z : FVec Ideal S4x8192x3072 .bf16) (mla : FVec Ideal S4x8192x512 .bf16)
    (gz : FVec Ideal S4x8192x3072 .bf16) (pw : FVec Ideal S2x4x128x128 .bf16) (psc : FVec Ideal S1x512 .f32)
    (wb : FVec Ideal S2x3x512x1024 .bf16) (wo : FVec Ideal S2x1024x1024 .bf16) (x : FVec Ideal S4x8192x1024 .f32)
    (gate : FVec Ideal S4x1x1024 .f32) (gp : FVec Ideal S1x1024 .f32) (Y X : FVec Ideal S1024x1024 .f32) (G : FVec Ideal S1x1x1024 .f32)
    (p : FVec Ideal S1x1024 .f32) (q d : Fin 1024) (b : Fin 4) (n : Fin 8192)
    (hY : ∀ e : Fin 1024, Y (ix2 q e) = proj na z mla gz pw psc wb wo b n e) (hX : X (ix2 q d) = x (ix3 b n d))
    (hG : G (ix3 0 0 d) = gate (ix3 b 0 d)) (hp : p (ix2 0 d) = gp (ix2 0 d)) :
    k0_pay1 (F := Ideal) Y X G p (ix3 0 q d) = result na z mla gz pw psc wb wo x gate gp b n d := by
  refine (out_at Y X G p q d).trans ?_
  simp only [hY, hX, hG, hp]
  rfl

theorem na_at (v : FVec Ideal S1x1024x512 .bf16) (q : Fin 1024) (i : Fin 512) : k0_pay16 (F := Ideal) v (ix2 q i) = v (ix3 0 q i) := by
  pointwise [k0_pay16]
theorem mla_at (v : FVec Ideal S1x1024x512 .bf16) (q : Fin 1024) (i : Fin 512) : k0_pay17 (F := Ideal) v (ix2 q i) = v (ix3 0 q i) := by
  pointwise [k0_pay17]
theorem x_at (v : FVec Ideal S1x1024x1024 .f32) (q d : Fin 1024) : k0_pay19 (F := Ideal) v (ix2 q d) = v (ix3 0 q d) := by
  pointwise [k0_pay19]

/-- A group's weight in its block. -/
theorem wt (B : Vec Ideal S1x4x128x128 .bf16) (g : Fin 4) (inb : ∀ a, ![0, g.val, 0, 0] a + ![1, 1, 128, 128] a ≤ S1x4x128x128.size a) (l o : Fin 128) :
    View.ld B (Rect.unit ![0, g.val, 0, 0] ![1, 1, 128, 128] inb) (ix4 0 0 l o) = B (ix4 0 g l o) := by
  refine congrArg B (funext fun a => Fin.ext ?_)
  fin_cases a
  · rfl
  · rfl
  · show 0 + 1 * l.val = l.val
    omega
  · show 0 + 1 * o.val = o.val
    omega

/-- A group's scales in their block. -/
theorem sc (B : Vec Ideal S1x512 .f32) (k : ℕ) (hk : k + 128 ≤ 512) (inb : ∀ a, ![0, k] a + ![1, 128] a ≤ S1x512.size a) (o : Fin 128) :
    View.ld B (Rect.unit ![0, k] ![1, 128] inb) (ix2 0 o) = B (ix2 0 ⟨k + o.val, by omega⟩) := by
  refine congrArg B (funext fun a => Fin.ext ?_)
  fin_cases a
  · rfl
  · show k + 1 * o.val = k + o.val
    omega

/-- A branch's weight in its block. -/
theorem br (B : Vec Ideal S1x3x512x1024 .bf16) (k : Fin 3) (inb : ∀ a, ![0, k.val, 0, 0] a + ![1, 1, 512, 1024] a ≤ S1x3x512x1024.size a) (i : Fin 512)
    (e : Fin 1024) : View.ld B (Rect.unit ![0, k.val, 0, 0] ![1, 1, 512, 1024] inb) (ix4 0 0 i e) = B (ix4 0 k i e) := by
  refine congrArg B (funext fun a => Fin.ext ?_)
  fin_cases a
  · rfl
  · rfl
  · show 0 + 1 * i.val = i.val
    omega
  · show 0 + 1 * e.val = e.val
    omega

/-- What a point leaves in the result's block. -/
theorem block (i : grid0.Coords) (x0 : Vec Ideal S1x1024x512 .bf16) (x1 : Vec Ideal S1x16x512 .bf16) (x2 : Vec Ideal S1x1024x512 .bf16)
    (x3 : Vec Ideal S1x16x512 .bf16) (x4 : Vec Ideal S1x1024x512 .bf16) (x5 x6 x7 : Vec Ideal S1x1024x1024 .bf16) (x8 : Vec Ideal S1x4x128x128 .bf16)
    (x9 : Vec Ideal S1x512 .f32) (x10 : Vec Ideal S1x3x512x1024 .bf16) (x11 : Vec Ideal S1x1024x1024 .bf16) (x12 : Vec Ideal S1x1024x1024 .f32)
    (x13 : Vec Ideal S1x1x1024 .f32) (x14 : Vec Ideal S1x1024 .f32) : out0_15 (F := Ideal) i x0 x1 x2 x3 x4 x5 x6 x7 x8 x9 x10 x11 x12 x13 x14
      = k0_pay1 (F := Ideal) (k0_pay18 (F := Ideal)
          (kpool (k0_pay2 (F := Ideal) i x1 x2 x3) (k0_pay3 i) (View.ld x8 r0_2) (View.ld x8 r0_4) (View.ld x8 r0_6) (View.ld x8 r0_8)
            (View.ld x9 r0_3) (View.ld x9 r0_5) (View.ld x9 r0_7) (View.ld x9 r0_9))
          (k0_pay16 (F := Ideal) x0) (k0_pay17 (F := Ideal) x4) (View.ld x10 r0_10) x5 (View.ld x10 r0_12) x6 (View.ld x10 r0_13) x7 x11)
        (k0_pay19 (F := Ideal) x12) x13 x14 := by
  unfold_out out0_15
  frame_out
  rfl

end pure

variable (m : (ℓ : Loc nD τ sig) → Buf (Elt Ideal) ℓ)

/-- The reference's result of the launch's arguments. -/
abbrev refOf (c : Dev nD) : FVec Ideal S4x8192x1024 .f32 :=
  ref (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

section reads
variable (c : Dev nD) (t : Fin cfg0.N)

theorem r0 (q : Fin 1024) (j : Fin 512) (n : Fin 8192) (h : n.val = t.val % 8 * 1024 + q.val) :
    iblk m c 0 t (ix3 0 q j) = m ((c : Thread nD τ).loc main_arg0) (ix3 ⟨t.val / 8, by have := (idx t).1; omega⟩ n j) := by
  blk_ext [iblk, V, idx t]

theorem r1 (q : Fin 16) (j : Fin 512) (n : Fin 8192) (h : n.val = (t.val % 8 * 64 - 1) * 16 + q.val) :
    iblk m c 1 t (ix3 0 q j) = m ((c : Thread nD τ).loc main_arg1) (ix3 ⟨t.val / 8, by have := (idx t).1; omega⟩ n ⟨1536 + j.val, by omega⟩) := by
  blk_ext [iblk, V, idx t]

theorem r2 (q : Fin 1024) (j : Fin 512) (n : Fin 8192) (h : n.val = t.val % 8 * 1024 + q.val) :
    iblk m c 2 t (ix3 0 q j) = m ((c : Thread nD τ).loc main_arg1) (ix3 ⟨t.val / 8, by have := (idx t).1; omega⟩ n ⟨1536 + j.val, by omega⟩) := by
  blk_ext [iblk, V, idx t]

theorem r3 (q : Fin 16) (j : Fin 512) (n : Fin 8192) (h : n.val = min (t.val % 8 * 64 + 64) 511 * 16 + q.val) :
    iblk m c 3 t (ix3 0 q j) = m ((c : Thread nD τ).loc main_arg1) (ix3 ⟨t.val / 8, by have := (idx t).1; omega⟩ n ⟨1536 + j.val, by omega⟩) := by
  blk_ext [iblk, V, idx t]

theorem r4 (q : Fin 1024) (j : Fin 512) (n : Fin 8192) (h : n.val = t.val % 8 * 1024 + q.val) :
    iblk m c 4 t (ix3 0 q j) = m ((c : Thread nD τ).loc main_arg2) (ix3 ⟨t.val / 8, by have := (idx t).1; omega⟩ n j) := by
  blk_ext [iblk, V, idx t]

theorem r5 (q : Fin 1024) (e : Fin 1024) (n : Fin 8192) (h : n.val = t.val % 8 * 1024 + q.val) :
    iblk m c 5 t (ix3 0 q e) = m ((c : Thread nD τ).loc main_arg3) (ix3 ⟨t.val / 8, by have := (idx t).1; omega⟩ n ⟨e.val, by omega⟩) := by
  blk_ext [iblk, V, idx t]

theorem r6 (q : Fin 1024) (e : Fin 1024) (n : Fin 8192) (h : n.val = t.val % 8 * 1024 + q.val) :
    iblk m c 6 t (ix3 0 q e) = m ((c : Thread nD τ).loc main_arg3) (ix3 ⟨t.val / 8, by have := (idx t).1; omega⟩ n ⟨1024 + e.val, by omega⟩) := by
  blk_ext [iblk, V, idx t]

theorem r7 (q : Fin 1024) (e : Fin 1024) (n : Fin 8192) (h : n.val = t.val % 8 * 1024 + q.val) :
    iblk m c 7 t (ix3 0 q e) = m ((c : Thread nD τ).loc main_arg3) (ix3 ⟨t.val / 8, by have := (idx t).1; omega⟩ n ⟨2048 + e.val, by omega⟩) := by
  blk_ext [iblk, V, idx t]

theorem r8 (g : Fin 4) (l o : Fin 128) : iblk m c 8 t (ix4 0 g l o) = m ((c : Thread nD τ).loc main_arg4) (ix4 0 g l o) := by
  blk_ext [iblk, V, idx t]

theorem r9 (j : Fin 512) : iblk m c 9 t (ix2 0 j) = m ((c : Thread nD τ).loc main_arg5) (ix2 0 j) := by
  blk_ext [iblk, V, idx t]

theorem r10 (k : Fin 3) (i : Fin 512) (e : Fin 1024) : iblk m c 10 t (ix4 0 k i e) = m ((c : Thread nD τ).loc main_arg6) (ix4 0 k i e) := by
  blk_ext [iblk, V, idx t]

theorem r11 (e d : Fin 1024) : iblk m c 11 t (ix3 0 e d) = m ((c : Thread nD τ).loc main_arg7) (ix3 0 e d) := by
  blk_ext [iblk, V, idx t]

theorem r12 (q : Fin 1024) (d : Fin 1024) (n : Fin 8192) (h : n.val = t.val % 8 * 1024 + q.val) :
    iblk m c 12 t (ix3 0 q d) = m ((c : Thread nD τ).loc main_arg8) (ix3 ⟨t.val / 8, by have := (idx t).1; omega⟩ n d) := by
  blk_ext [iblk, V, idx t]

theorem r13 (d : Fin 1024) : iblk m c 13 t (ix3 0 0 d) = m ((c : Thread nD τ).loc main_arg9) (ix3 ⟨t.val / 8, by have := (idx t).1; omega⟩ 0 d) := by
  blk_ext [iblk, V, idx t]

theorem r14 (d : Fin 1024) : iblk m c 14 t (ix2 0 d) = m ((c : Thread nD τ).loc main_arg10) (ix2 0 d) := by
  blk_ext [iblk, V, idx t]

end reads

/-- Every element of the block is the reference's. -/
theorem block_at (c : Dev nD) (t : Fin cfg0.N) (q : Fin 1024) (d : Fin 1024) (n : Fin 8192) (hn : n.val = t.val % 8 * 1024 + q.val) :
    out0_15 (F := Ideal) (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) (ix3 0 q d)
      = refOf m c (ix3 ⟨t.val / 8, by have := (idx t).1; omega⟩ n d) := by
  have hb : t.val % 8 < 8 := Nat.mod_lt _ (by decide)
  rw [block]
  refine Eq.trans ?_ (ref_at _ _ _ _ _ _ _ _ _ _ _ _ n d).symm
  have hE := pad_at (grid0.coords t) (iblk m c 1 t) (iblk m c 2 t) (iblk m c 3 t) (m ((c : Thread nD τ).loc main_arg1))
    ⟨t.val / 8, by have := (idx t).1; omega⟩ (t.val % 8) hb (coord t)
    (fun r j n h => r1 m c t r j n (by have := r.isLt; omega)) (fun r j n h => r2 m c t r j n h)
    (fun r j n h => r3 m c t r j n (by have := n.isLt; omega))
  have hp := kpool_at (m ((c : Thread nD τ).loc main_arg1)) (m ((c : Thread nD τ).loc main_arg4)) (m ((c : Thread nD τ).loc main_arg5))
    ⟨t.val / 8, by have := (idx t).1; omega⟩ (t.val % 8 * 1024) _ (k0_pay3 (grid0.coords t))
    (View.ld (iblk m c 8 t) r0_2) (View.ld (iblk m c 8 t) r0_4) (View.ld (iblk m c 8 t) r0_6) (View.ld (iblk m c 8 t) r0_8)
    (View.ld (iblk m c 9 t) r0_3) (View.ld (iblk m c 9 t) r0_5) (View.ld (iblk m c 9 t) r0_7) (View.ld (iblk m c 9 t) r0_9) hE
    (fun q => (row_at _ q).trans (by rw [coord t]))
    (fun l o => (wt _ 0 _ l o).trans (r8 m c t 0 l o)) (fun l o => (wt _ 1 _ l o).trans (r8 m c t 1 l o))
    (fun l o => (wt _ 2 _ l o).trans (r8 m c t 2 l o)) (fun l o => (wt _ 3 _ l o).trans (r8 m c t 3 l o))
    (fun o => (sc _ 0 (by omega) _ o).trans (r9 m c t _)) (fun o => (sc _ 128 (by omega) _ o).trans (r9 m c t _))
    (fun o => (sc _ 256 (by omega) _ o).trans (r9 m c t _)) (fun o => (sc _ 384 (by omega) _ o).trans (r9 m c t _)) q
  have hs : ∀ e : Fin 1024, k0_pay18 (F := Ideal)
          (kpool (k0_pay2 (F := Ideal) (grid0.coords t) (iblk m c 1 t) (iblk m c 2 t) (iblk m c 3 t)) (k0_pay3 (grid0.coords t))
            (View.ld (iblk m c 8 t) r0_2) (View.ld (iblk m c 8 t) r0_4) (View.ld (iblk m c 8 t) r0_6) (View.ld (iblk m c 8 t) r0_8)
            (View.ld (iblk m c 9 t) r0_3) (View.ld (iblk m c 9 t) r0_5) (View.ld (iblk m c 9 t) r0_7) (View.ld (iblk m c 9 t) r0_9))
          (k0_pay16 (F := Ideal) (iblk m c 0 t)) (k0_pay17 (F := Ideal) (iblk m c 4 t)) (View.ld (iblk m c 10 t) r0_10) (iblk m c 5 t)
          (View.ld (iblk m c 10 t) r0_12) (iblk m c 6 t) (View.ld (iblk m c 10 t) r0_13) (iblk m c 7 t) (iblk m c 11 t) (ix2 q e)
        = proj (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) ⟨t.val / 8, by have := (idx t).1; omega⟩ n e := by
    intro e
    refine (proj_at _ _ _ _ _ _ _ _ _ _ q e).trans (Finset.sum_congr rfl fun k _ => Ideal.mul_congr ?_ (r11 m c t k e))
    refine Ideal.add_congr (Ideal.add_congr ?_ ?_) ?_
    · refine Ideal.mul_congr (r5 m c t q k n hn) (Finset.sum_congr rfl fun i _ => Ideal.mul_congr ?_ ?_)
      · exact (na_at _ q i).trans (r0 m c t q i n hn)
      · exact (br _ 0 _ i k).trans (r10 m c t 0 i k)
    · refine Ideal.mul_congr (r6 m c t q k n hn) (Finset.sum_congr rfl fun i _ => Ideal.mul_congr ?_ ?_)
      · rw [hn]
        exact hp i
      · exact (br _ 1 _ i k).trans (r10 m c t 1 i k)
    · refine Ideal.mul_congr (r7 m c t q k n hn) (Finset.sum_congr rfl fun i _ => Ideal.mul_congr ?_ ?_)
      · exact (mla_at _ q i).trans (r4 m c t q i n hn)
      · exact (br _ 2 _ i k).trans (r10 m c t 2 i k)
  exact fin_eq _ _ _ _ _ _ _ _ _ _ _ _ _ _ _ q d _ n hs ((x_at _ q d).trans (r12 m c t q d n hn)) (r13 m c t d) (r14 m c t d)

/-- The result array after the run. -/
theorem final (c : Dev nD) : (dats m 0 c).arrAt 15 (cfgs 0).N = refOf m c := by
  refine (dats m 0 c).arrAt_eq_of_covers 15 _ (by decide +kernel) fun t hf y => ?_
  blk_simp
  rw [after0_15]
  have hb : t.val % 8 < 8 := Nat.mod_lt _ (by decide)
  obtain ⟨e, q, d, rfl⟩ : ∃ (e : Fin 1) (q : Fin 1024) (d : Fin 1024), y = ix3 e q d := ⟨_, _, _, eq_ix3 y⟩
  obtain rfl : e = 0 := Subsingleton.elim _ _
  refine (block_at m c t q d ⟨t.val % 8 * 1024 + q.val, by omega⟩ rfl).trans ?_
  blk_ext [idx t]

end Cert.Merge
-- ==== Proof.MergeClaim.lean ====
module

public import proofs.«01_k».proof.Defs
public import proofs.«01_k».proof.Proof.Merge
public import Idealize.ShloMosaic.Lib.Claim

/-! The merge's value claim, from the two runs. -/

@[expose] public section

set_option maxRecDepth 16384

noncomputable section

namespace Cert.Merge

open Idealize.ShloMosaic Idealize.SL.Sem

/-- The reference's result in the kernel's arguments. -/
theorem res_eq (m : (ℓ : Loc Cert.Kernel4Ideal.nD Cert.Kernel4Ideal.τ Cert.Kernel4Ideal.sig) → Buf (Elt Ideal) ℓ)
    (V : Valuation Cert.Reference4Ideal.τ Cert.Reference4Ideal.sig (Elt Ideal)) (c : Dev Cert.Kernel4Ideal.nD)
    (e0 : V (Proc.devRef .tc Cert.Reference4Ideal.main_arg0) = m ((c.tc : Thread Cert.Kernel4Ideal.nD Cert.Kernel4Ideal.τ).loc Cert.Kernel4Ideal.main_arg0))
    (e1 : V (Proc.devRef .tc Cert.Reference4Ideal.main_arg1) = m ((c.tc : Thread Cert.Kernel4Ideal.nD Cert.Kernel4Ideal.τ).loc Cert.Kernel4Ideal.main_arg1))
    (e2 : V (Proc.devRef .tc Cert.Reference4Ideal.main_arg2) = m ((c.tc : Thread Cert.Kernel4Ideal.nD Cert.Kernel4Ideal.τ).loc Cert.Kernel4Ideal.main_arg2))
    (e3 : V (Proc.devRef .tc Cert.Reference4Ideal.main_arg3) = m ((c.tc : Thread Cert.Kernel4Ideal.nD Cert.Kernel4Ideal.τ).loc Cert.Kernel4Ideal.main_arg3))
    (e4 : V (Proc.devRef .tc Cert.Reference4Ideal.main_arg4) = m ((c.tc : Thread Cert.Kernel4Ideal.nD Cert.Kernel4Ideal.τ).loc Cert.Kernel4Ideal.main_arg4))
    (e5 : V (Proc.devRef .tc Cert.Reference4Ideal.main_arg5) = m ((c.tc : Thread Cert.Kernel4Ideal.nD Cert.Kernel4Ideal.τ).loc Cert.Kernel4Ideal.main_arg5))
    (e6 : V (Proc.devRef .tc Cert.Reference4Ideal.main_arg6) = m ((c.tc : Thread Cert.Kernel4Ideal.nD Cert.Kernel4Ideal.τ).loc Cert.Kernel4Ideal.main_arg6))
    (e7 : V (Proc.devRef .tc Cert.Reference4Ideal.main_arg7) = m ((c.tc : Thread Cert.Kernel4Ideal.nD Cert.Kernel4Ideal.τ).loc Cert.Kernel4Ideal.main_arg7))
    (e8 : V (Proc.devRef .tc Cert.Reference4Ideal.main_arg8) = m ((c.tc : Thread Cert.Kernel4Ideal.nD Cert.Kernel4Ideal.τ).loc Cert.Kernel4Ideal.main_arg8))
    (e9 : V (Proc.devRef .tc Cert.Reference4Ideal.main_arg9) = m ((c.tc : Thread Cert.Kernel4Ideal.nD Cert.Kernel4Ideal.τ).loc Cert.Kernel4Ideal.main_arg9))
    (e10 : V (Proc.devRef .tc Cert.Reference4Ideal.main_arg10) = m ((c.tc : Thread Cert.Kernel4Ideal.nD Cert.Kernel4Ideal.τ).loc Cert.Kernel4Ideal.main_arg10)) :
    Cert.Ffn.outArr (V (Proc.devRef .tc Cert.Reference4Ideal.main_arg8)) (Cert.Reference4Ideal.Value.res_main_v164 V)
      (V (Proc.devRef .tc Cert.Reference4Ideal.main_arg9)) (V (Proc.devRef .tc Cert.Reference4Ideal.main_arg10)) = refOf m c := by
  refine (run_ref V).trans ?_
  rw [e0, e1, e2, e3, e4, e5, e6, e7, e8, e9, e10]

/-- The merge's result is the reference's. -/
theorem algebraic : Cert.algebraic_Kernel4Ideal_Reference4Ideal := by
  intro m g m' g' hpre hagree
  refine ⟨fun c => refOf m c, ?_, ?_⟩
  · exact (θ_run _ _ _).mono (fun r h c => ⟨(h c).1.trans (final m c), (h c).2⟩) (Cert.Kernel4Ideal.Value.run_blocks m g)
  · refine (θ_run _ _ _).mono (fun r h c => ⟨(h c).1.trans ?_, (h c).2⟩) (Cert.Reference4Ideal.Value.run m' g')
    obtain ⟨e0, e1, e2, e3, e4, e5, e6, e7, e8, e9, e10⟩ := hagree c
    exact res_eq m _ c e0 e1 e2 e3 e4 e5 e6 e7 e8 e9 e10

end Cert.Merge
-- ==== Proof.lean ====
/- The claims, put together: the frames come from the generated modules, the values from this proof's own. -/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel2Ideal.Frame
public import proofs.«01_k».proof.Proof.Gen.Reference2Ideal.Run
public import proofs.«01_k».proof.Proof.Gen.Reference3Ideal.Run
public import proofs.«01_k».proof.Proof.FlashClaim
public import proofs.«01_k».proof.Proof.InProj
public import proofs.«01_k».proof.Proof.FfnClaim
public import proofs.«01_k».proof.Proof.Gen.Kernel4.Frame
public import proofs.«01_k».proof.Proof.MergeClaim
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem frame_ref : Cert.quiescent_ReferenceIdeal := fun m g _ =>
  (θ_run _ _ _).mono (fun r h => ⟨fun c => (h c).2, sem_eq_zero_of_no_sems (by decide) r.2⟩) (Cert.ReferenceIdeal.Value.run m g)

theorem frame_ref2 : Cert.quiescent_Reference2Ideal := fun m g _ =>
  (θ_run _ _ _).mono (fun r h => ⟨fun c => (h c).2, sem_eq_zero_of_no_sems (by decide) r.2⟩) (Cert.Reference2Ideal.Value.run m g)

theorem frame_ref3 : Cert.quiescent_Reference3Ideal := fun m g _ =>
  (θ_run _ _ _).mono (fun r h => ⟨fun c => (h c).2.2, sem_eq_zero_of_no_sems (by decide) r.2⟩) (Cert.Reference3Ideal.Value.run m g)

theorem frame_ref4 : Cert.quiescent_Reference4Ideal := fun m g _ =>
  (θ_run _ _ _).mono (fun r h => ⟨fun c => (h c).2, sem_eq_zero_of_no_sems (by decide) r.2⟩) (Cert.Reference4Ideal.Value.run m g)

/-- The input projection's two results are the reference's. -/
theorem in_proj : Cert.algebraic_Kernel3Ideal_Reference3Ideal := by
  pair_intro
  · run_from Cert.Kernel3Ideal.Gen.run_main m g
  · run_from Cert.Reference3Ideal.Value.run m' g'
    · exact (Cert.InProj.z_final m c).symm
    · exact (Cert.InProj.g_final m c).symm

theorem claim : Cert.Claim := by
  refine ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts, Cert.Flash.pre_facts, ?_⟩
  refine ⟨fun m ρ _ => Cert.Kernel.Gen.frame m ρ, fun m ρ _ => Cert.KernelIdeal.Gen.frame m ρ, fun m ρ _ => Cert.KernelIdeal.Gen.frame m ρ,
    frame_ref, fun m ρ _ => frame_ref m ρ trivial,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ref4, ?_⟩
  exact ⟨IdealRules.named_const.statement Cert.KernelIdeal.κ "neg" .f32 0xF149F2CA#32 ⊥ rfl, Cert.Flash.algebraic, trivial, Cert.Ffn.algebraic, trivial, in_proj, trivial,
    Cert.Merge.algebraic⟩

end Cert.Proof

end
